-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Onehot [hPre_indices_in_range : Cert.Pre_indices_in_range.Facts] (m : (ℓ : Loc Cert.Onehot.nD Cert.Onehot.τ Cert.Onehot.sig) → Buf (Elt Bits) ℓ) : Prop :=
  ∀ c : Dev Cert.Onehot.nD,
    (Cert.Pre_indices_in_range.fn (F := Bits) (m ((c.tc : Thread Cert.Onehot.nD Cert.Onehot.τ).loc Cert.Onehot.main_arg0))) = (fun _ => 1#1)

def Pre_OnehotIdeal [hPre_indices_in_range : Cert.Pre_indices_in_range.Facts] (m : (ℓ : Loc Cert.OnehotIdeal.nD Cert.OnehotIdeal.τ Cert.OnehotIdeal.sig) → Buf (Elt Ideal) ℓ) : Prop :=
  ∀ c : Dev Cert.OnehotIdeal.nD,
    (Cert.Pre_indices_in_range.fn (F := Ideal) (m ((c.tc : Thread Cert.OnehotIdeal.nD Cert.OnehotIdeal.τ).loc Cert.OnehotIdeal.main_arg0))) = (fun _ => 1#1)

def Pre_OnehotReferenceIdeal [hPre_indices_in_range : Cert.Pre_indices_in_range.Facts] (m : (ℓ : Loc Cert.OnehotReferenceIdeal.nD Cert.OnehotReferenceIdeal.τ Cert.OnehotReferenceIdeal.sig) → Buf (Elt Ideal) ℓ) : Prop :=
  ∀ c : Dev Cert.OnehotReferenceIdeal.nD,
    (Cert.Pre_indices_in_range.fn (F := Ideal) (m ((c.tc : Thread Cert.OnehotReferenceIdeal.nD Cert.OnehotReferenceIdeal.τ).loc Cert.OnehotReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Onehot [hOnehot : Cert.Onehot.Facts] [hPre_indices_in_range : Cert.Pre_indices_in_range.Facts] : Prop :=
  ∀ (m : (ℓ : Loc Cert.Onehot.nD Cert.Onehot.τ Cert.Onehot.sig) → Buf (Elt Bits) ℓ) (g : Dev Cert.Onehot.nD → PrngReg), Pre_Onehot m →
    θ_run (Cert.Onehot.defs (F := Bits)) (Cert.Onehot.threads (F := Bits)) ⟨m, fun _ => 0, g⟩ (fun r => (∀ c : Dev Cert.Onehot.nD,
      r.2.mem ((c.tc : Thread Cert.Onehot.nD Cert.Onehot.τ).loc Cert.Onehot.main_arg0) = m ((c.tc : Thread Cert.Onehot.nD Cert.Onehot.τ).loc Cert.Onehot.main_arg0))
      ∧ r.2.sem = fun _ => 0)

def quiescent_OnehotIdeal [hOnehotIdeal : Cert.OnehotIdeal.Facts] [hPre_indices_in_range : Cert.Pre_indices_in_range.Facts] : Prop :=
  ∀ (m : (ℓ : Loc Cert.OnehotIdeal.nD Cert.OnehotIdeal.τ Cert.OnehotIdeal.sig) → Buf (Elt Ideal) ℓ) (g : Dev Cert.OnehotIdeal.nD → PrngReg), Pre_OnehotIdeal m →
    θ_run (Cert.OnehotIdeal.defs (F := Ideal)) (Cert.OnehotIdeal.threads (F := Ideal)) ⟨m, fun _ => 0, g⟩ (fun r => (∀ c : Dev Cert.OnehotIdeal.nD,
      r.2.mem ((c.tc : Thread Cert.OnehotIdeal.nD Cert.OnehotIdeal.τ).loc Cert.OnehotIdeal.main_arg0) = m ((c.tc : Thread Cert.OnehotIdeal.nD Cert.OnehotIdeal.τ).loc Cert.OnehotIdeal.main_arg0))
      ∧ r.2.sem = fun _ => 0)

def quiescent_OnehotReferenceIdeal [hOnehotReferenceIdeal : Cert.OnehotReferenceIdeal.Facts] [hPre_indices_in_range : Cert.Pre_indices_in_range.Facts] : Prop :=
  ∀ (m : (ℓ : Loc Cert.OnehotReferenceIdeal.nD Cert.OnehotReferenceIdeal.τ Cert.OnehotReferenceIdeal.sig) → Buf (Elt Ideal) ℓ) (g : Dev Cert.OnehotReferenceIdeal.nD → PrngReg), Pre_OnehotReferenceIdeal m →
    θ_run (Cert.OnehotReferenceIdeal.defs (F := Ideal)) (onTc (τ := Cert.OnehotReferenceIdeal.τ) (Cert.OnehotReferenceIdeal.main (F := Ideal))) ⟨m, fun _ => 0, g⟩ (fun r => (∀ c : Dev Cert.OnehotReferenceIdeal.nD,
      r.2.mem ((c.tc : Thread Cert.OnehotReferenceIdeal.nD Cert.OnehotReferenceIdeal.τ).loc Cert.OnehotReferenceIdeal.main_arg0) = m ((c.tc : Thread Cert.OnehotReferenceIdeal.nD Cert.OnehotReferenceIdeal.τ).loc Cert.OnehotReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v35) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Onehot_OnehotIdeal : Prop :=
  True

def algebraic_OnehotIdeal_OnehotReferenceIdeal [hOnehotIdeal : Cert.OnehotIdeal.Facts] [hOnehotReferenceIdeal : Cert.OnehotReferenceIdeal.Facts] [hPre_indices_in_range : Cert.Pre_indices_in_range.Facts] : Prop :=
  ∀ (m : (ℓ : Loc Cert.OnehotIdeal.nD Cert.OnehotIdeal.τ Cert.OnehotIdeal.sig) → Buf (Elt Ideal) ℓ) (g : Dev Cert.OnehotIdeal.nD → PrngReg)
    (m' : (ℓ : Loc Cert.OnehotReferenceIdeal.nD Cert.OnehotReferenceIdeal.τ Cert.OnehotReferenceIdeal.sig) → Buf (Elt Ideal) ℓ) (g' : Dev Cert.OnehotReferenceIdeal.nD → PrngReg), Pre_OnehotIdeal m →
    (∀ c : Dev Cert.OnehotIdeal.nD,
      m' ((c.tc : Thread Cert.OnehotReferenceIdeal.nD Cert.OnehotReferenceIdeal.τ).loc Cert.OnehotReferenceIdeal.main_arg0) = m ((c.tc : Thread Cert.OnehotIdeal.nD Cert.OnehotIdeal.τ).loc Cert.OnehotIdeal.main_arg0)) →
    ∃ (v0 : (c : Dev Cert.OnehotIdeal.nD) → Buf (Elt Ideal) ((c.tc : Thread Cert.OnehotIdeal.nD Cert.OnehotIdeal.τ).loc Cert.OnehotIdeal.main_v1)),
      θ_run (Cert.OnehotIdeal.defs (F := Ideal)) (Cert.OnehotIdeal.threads (F := Ideal)) ⟨m, fun _ => 0, g⟩ (fun r => ∀ c : Dev Cert.OnehotIdeal.nD,
          r.2.mem ((c.tc : Thread Cert.OnehotIdeal.nD Cert.OnehotIdeal.τ).loc Cert.OnehotIdeal.main_v1) = v0 c
          ∧ r.2.mem ((c.tc : Thread Cert.OnehotIdeal.nD Cert.OnehotIdeal.τ).loc Cert.OnehotIdeal.main_arg0) = m ((c.tc : Thread Cert.OnehotIdeal.nD Cert.OnehotIdeal.τ).loc Cert.OnehotIdeal.main_arg0))
      ∧ θ_run (Cert.OnehotReferenceIdeal.defs (F := Ideal)) (onTc (τ := Cert.OnehotReferenceIdeal.τ) (Cert.OnehotReferenceIdeal.main (F := Ideal))) ⟨m', fun _ => 0, g'⟩ (fun r => ∀ c : Dev Cert.OnehotReferenceIdeal.nD,
          r.2.mem ((c.tc : Thread Cert.OnehotReferenceIdeal.nD Cert.OnehotReferenceIdeal.τ).loc Cert.OnehotReferenceIdeal.main_v16) = v0 c
          ∧ r.2.mem ((c.tc : Thread Cert.OnehotReferenceIdeal.nD Cert.OnehotReferenceIdeal.τ).loc Cert.OnehotReferenceIdeal.main_arg0) = m' ((c.tc : Thread Cert.OnehotReferenceIdeal.nD Cert.OnehotReferenceIdeal.τ).loc Cert.OnehotReferenceIdeal.main_arg0))

def Claim : Prop :=
  ∃ (hKernel : Cert.Kernel.Facts) (hKernelIdeal : Cert.KernelIdeal.Facts) (hReferenceIdeal : Cert.ReferenceIdeal.Facts) (hOnehot : Cert.Onehot.Facts) (hOnehotIdeal : Cert.OnehotIdeal.Facts) (hOnehotReferenceIdeal : Cert.OnehotReferenceIdeal.Facts) (hPre_indices_in_range : Cert.Pre_indices_in_range.Facts),
    quiescent_Kernel (hKernel := hKernel)
    ∧ quiescent_KernelIdeal (hKernelIdeal := hKernelIdeal)
    ∧ quiescent_ReferenceIdeal (hReferenceIdeal := hReferenceIdeal)
    ∧ quiescent_Onehot (hOnehot := hOnehot) (hPre_indices_in_range := hPre_indices_in_range)
    ∧ quiescent_OnehotIdeal (hOnehotIdeal := hOnehotIdeal) (hPre_indices_in_range := hPre_indices_in_range)
    ∧ quiescent_OnehotReferenceIdeal (hOnehotReferenceIdeal := hOnehotReferenceIdeal) (hPre_indices_in_range := hPre_indices_in_range)
    ∧ preserves_Kernel_KernelIdeal
    ∧ algebraic_KernelIdeal_ReferenceIdeal (hKernelIdeal := hKernelIdeal) (hReferenceIdeal := hReferenceIdeal)
    ∧ preserves_Onehot_OnehotIdeal
    ∧ algebraic_OnehotIdeal_OnehotReferenceIdeal (hOnehotIdeal := hOnehotIdeal) (hOnehotReferenceIdeal := hOnehotReferenceIdeal) (hPre_indices_in_range := hPre_indices_in_range)
-- ==== Pre_indices_in_range.lean ====
abbrev S8192 : Shape := ⟨1, ![8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel

variable [Facts]

def fn {F : FTy → Type} [FloatOps F] (main_arg0 : IVec S8192 32) : IVec S_ 1 :=
  let main_c : IVec S_ 32 := constantI S_ 32 0#32
  let main_v0 : IVec S8192 32 := broadcastInDim S8192 ![] bcast_S_S8192 main_c
  let main_v1 : IVec S8192 1 := cmpi .sge main_arg0 main_v0
  let main_c_0 : IVec S_ 32 := constantI S_ 32 1024#32
  let main_v2 : IVec S8192 32 := broadcastInDim S8192 ![] bcast_S_S8192 main_c_0
  let main_v3 : IVec S8192 1 := cmpi .slt main_arg0 main_v2
  let main_v4 : IVec S8192 1 := andi main_v1 main_v3
  let main_c_1 : IVec S_ 1 := constantI S_ 1 1#1
  let main_v5 : IVec S_ 1 := (fun x v => Host.reduce IntOp.andi x v reducesTo_S8192_S_d0 h_S_) main_v4 main_c_1
  main_v5
-- ==== Kernel.lean ====
abbrev S8x256x32x32 : Shape := ⟨4, ![8, 256, 32, 32]⟩
abbrev S1024x256 : Shape := ⟨2, ![1024, 256]⟩
abbrev S8x256x1024 : Shape := ⟨3, ![8, 256, 1024]⟩
abbrev S_ : Shape := ⟨0, ![]⟩
abbrev S1024 : Shape := ⟨1, ![1024]⟩
abbrev S1024x1 : Shape := ⟨2, ![1024, 1]⟩
abbrev S8192x1024 : Shape := ⟨2, ![8192, 1024]⟩
abbrev S8x1x1024 : Shape := ⟨3, ![8, 1, 1024]⟩
abbrev S8192 : Shape := ⟨1, ![8192]⟩
abbrev S8192x1 : Shape := ⟨2, ![8192, 1]⟩
abbrev S2x256x1024 : Shape := ⟨3, ![2, 256, 1024]⟩
abbrev S2048x1024 : Shape := ⟨2, ![2048, 1024]⟩
abbrev S2x1x1024 : Shape := ⟨3, ![2, 1, 1024]⟩
abbrev S1x256x1024 : Shape := ⟨3, ![1, 256, 1024]⟩
abbrev S256x1024 : Shape := ⟨2, ![256, 1024]⟩
abbrev S1x1024 : Shape := ⟨2, ![1, 1024]⟩
abbrev S1024x1024 : Shape := ⟨2, ![1024, 1024]⟩
abbrev S1x1x1024 : Shape := ⟨3, ![1, 1, 1024]⟩

abbrev nBuf : Space → Nat
  | .hbm => 13
  | .vmem => 10
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x256x1024, .f32⟩
  | .hbm, ⟨3, _⟩ => ⟨S1024x256, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S8x256x1024, .f32⟩
  | .hbm, ⟨8, _⟩ => ⟨S8192x1024, .f32⟩
  | .hbm, ⟨9, _⟩ => ⟨S8x1x1024, .i32⟩
  | .hbm, ⟨10, _⟩ => ⟨S8192, .i32⟩
  | .hbm, ⟨11, _⟩ => ⟨S8x256x32x32, .f32⟩
  | .hbm, ⟨12, _⟩ => ⟨S8192x1, .i32⟩
  | .local _ .vmem, ⟨0, _⟩ => ⟨S2x256x1024, .f32⟩
  | .local _ .vmem, ⟨1, _⟩ => ⟨S2x256x1024, .f32⟩
  | .local _ .vmem, ⟨2, _⟩ => ⟨S1024x256, .f32⟩
  | .local _ .vmem, ⟨3, _⟩ => ⟨S1024x1, .f32⟩
  | .local _ .vmem, ⟨4, _⟩ => ⟨S2x256x1024, .f32⟩
  | .local _ .vmem, ⟨5, _⟩ => ⟨S2x256x1024, .f32⟩
  | .local _ .vmem, ⟨6, _⟩ => ⟨S2048x1024, .f32⟩
  | .local _ .vmem, ⟨7, _⟩ => ⟨S2048x1024, .f32⟩
  | .local _ .vmem, ⟨8, _⟩ => ⟨S2x1x1024, .i32⟩
  | .local _ .vmem, ⟨9, _⟩ => ⟨S2x1x1024, .i32⟩
  | _, _ => ⟨S8x256x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_cst : Ref sig .tc := ⟨.hbm, 4, rfl⟩
abbrev main_call0_v2 : Ref sig .tc := ⟨.hbm, 5, rfl⟩
abbrev main_call0_v3 : Ref sig .tc := ⟨.hbm, 6, rfl⟩
abbrev main_call0_v4_0 : Ref sig .tc := ⟨.hbm, 7, rfl⟩
abbrev main_v0_1 : Ref sig .tc := ⟨.hbm, 8, rfl⟩
abbrev main_call0_v4_2 : Ref sig .tc := ⟨.hbm, 9, rfl⟩
abbrev main_call0_v5 : Ref sig .tc := ⟨.hbm, 10, rfl⟩
abbrev main_v0_0 : Ref sig .tc := ⟨.hbm, 11, rfl⟩
abbrev main_v0_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x1x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x256x32x32 : Shape := ⟨4, ![8, 256, 32, 32]⟩
abbrev S1024x256 : Shape := ⟨2, ![1024, 256]⟩
abbrev S8x32x32x256 : Shape := ⟨4, ![8, 32, 32, 256]⟩
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S8192x2 : Shape := ⟨2, ![8192, 2]⟩

abbrev nBuf : Space → Nat
  | .hbm => 54
  | .vmem => 0
  | .smem => 0
  | _ => 0

abbrev bufTy : (tb : Table) → Fin (tcTables nBuf tb) → BufTy
  | .hbm, ⟨0, _⟩ => ⟨S8x256x32x32, .f32⟩
  | .hbm, ⟨1, _⟩ => ⟨S1024x256, .f32⟩
  | .hbm, ⟨2, _⟩ => ⟨S8x32x32x256, .f32⟩
  | .hbm, ⟨3, _⟩ => ⟨S8192x256, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1024x256, .f32⟩
  | .hbm, ⟨9, _⟩ => ⟨S_, .f32⟩
  | .hbm, ⟨10, _⟩ => ⟨S1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S256x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .i32⟩
  | .hbm, ⟨22, _⟩ => ⟨S_, .f32⟩
  | .hbm, ⟨23, _⟩ => ⟨S_, .i32⟩
  | .hbm, ⟨24, _⟩ => ⟨S8192, .f32⟩
  | .hbm, ⟨25, _⟩ => ⟨S8192, .i32⟩
  | .hbm, ⟨26, _⟩ => ⟨S8192x1, .i32⟩
  | .hbm, ⟨27, _⟩ => ⟨S_, .f32⟩
  | .hbm, ⟨28, _⟩ => ⟨S8192x1024, .f32⟩
  | .hbm, ⟨29, _⟩ => ⟨S8192, .i32⟩
  | .hbm, ⟨30, _⟩ => ⟨S8192, .i32⟩
  | .hbm, ⟨31, _⟩ => ⟨S_, .i32⟩
  | .hbm, ⟨32, _⟩ => ⟨S8192, .i32⟩
  | .hbm, ⟨33, _⟩ => ⟨S8192, .i1⟩
  | .hbm, ⟨34, _⟩ => ⟨S_, .i32⟩
  | .hbm, ⟨35, _⟩ => ⟨S8192, .i32⟩
  | .hbm, ⟨36, _⟩ => ⟨S8192, .i32⟩
  | .hbm, ⟨37, _⟩ => ⟨S8192, .i32⟩
  | .hbm, ⟨38, _⟩ => ⟨S_, .i32⟩
  | .hbm, ⟨39, _⟩ => ⟨S8192, .i32⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S8192x1, .i32⟩
  | .hbm, ⟨46, _⟩ => ⟨S8192x1, .i32⟩
  | .hbm, ⟨47, _⟩ => ⟨S8192x2, .i32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x256, .f32⟩
  | .hbm, ⟨52, _⟩ => ⟨S8x32x32x256, .f32⟩
  | .hbm, ⟨53, _⟩ => ⟨S8x256x32x32, .f32⟩
  | _, _ => ⟨S8x256x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_cst : Ref sig .tc := ⟨.hbm, 22, rfl⟩
abbrev main_call0_c : Ref sig .tc := ⟨.hbm, 23, rfl⟩
abbrev main_call0_v1_0 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_c : Ref sig .tc := ⟨.hbm, 31, rfl⟩
abbrev main_v21 : Ref sig .tc := ⟨.hbm, 32, rfl⟩
abbrev main_v22 : Ref sig .tc := ⟨.hbm, 33, rfl⟩
abbrev main_c_3 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== Onehot.lean ====
abbrev S8192 : Shape := ⟨1, ![8192]⟩
abbrev S_ : Shape := ⟨0, ![]⟩
abbrev S32x1024 : Shape := ⟨2, ![32, 1024]⟩
abbrev S8192x1024 : Shape := ⟨2, ![8192, 1024]⟩
abbrev S256 : Shape := ⟨1, ![256]⟩
abbrev S16 : Shape := ⟨1, ![16]⟩

abbrev nBuf : Table → Nat
  | .hbm => 4
  | .local .scVector .vmem => 2
  | _ => 0

abbrev bufTy : (tb : Table) → Fin (nBuf tb) → BufTy
  | .hbm, ⟨0, _⟩ => ⟨S8192, .i32⟩
  | .hbm, ⟨1, _⟩ => ⟨S_, .f32⟩
  | .hbm, ⟨2, _⟩ => ⟨S32x1024, .f32⟩
  | .hbm, ⟨3, _⟩ => ⟨S8192x1024, .f32⟩
  | .local .scVector .vmem, ⟨0, _⟩ => ⟨S256, .i32⟩
  | .local .scVector .vmem, ⟨1, _⟩ => ⟨S32x1024, .f32⟩
  | _, _ => ⟨S8192, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  ![v2.toNat]
@[reducible] def k0_t1_loop : Scf.Loop 32 :=
  let c0_i32_1 : BitVec 32 := 0#32
  let c8_i32 : BitVec 32 := 8#32
  let v6 : BitVec 32 := Scalar.addi c0_i32_1 c8_i32
  let c1_i32 : BitVec 32 := 1#32
  ⟨c0_i32_1, v6, c1_i32⟩
@[reducible] def k0_t2_loop : Scf.Loop 32 :=
  let c0_i32_3 : BitVec 32 := 0#32
  let c2_i32_4 : BitVec 32 := 2#32
  let v7 : BitVec 32 := Scalar.addi c0_i32_3 c2_i32_4
  let c1_i32_5 : BitVec 32 := 1#32
  ⟨c0_i32_3, v7, c1_i32_5⟩
def k0_off2 (k0_t1 : Fin k0_t1_loop.trips) (k0_t2 : Fin k0_t2_loop.trips) : Fin 1 → Nat :=
  let c0_i32_1 : BitVec 32 := 0#32
  let c1_i32 : BitVec 32 := 1#32
  let arg7 : BitVec 32 := Scf.iv c0_i32_1 c1_i32 k0_t1
  let c32_i32_11 : BitVec 32 := 32#32
  let v14 : BitVec 32 := Scalar.muli arg7 c32_i32_11
  let c0_i32_3 : BitVec 32 := 0#32
  let c1_i32_5 : BitVec 32 := 1#32
  let arg8 : BitVec 32 := Scf.iv c0_i32_3 c1_i32_5 k0_t2
  let c16_i32_12 : BitVec 32 := 16#32
  let v15 : BitVec 32 := Scalar.muli arg8 c16_i32_12
  let v16 : BitVec 32 := Scalar.addi v14 v15
  let v17 : Index := Scalar.indexCast v16
  ![v17.toNat]

def k0_chk1 (v13 : IVec S16 32) (v18 : IVec S16 32) : Prop :=
  (∀ a x, ((![v13, v18] : Fin 2 → IVec S16 32) a x).toNat < S32x1024.size a)
theorem k0_idx1_inb : ∀ (v13 : IVec S16 32) (v18 : IVec S16 32) (k0_hw1 : k0_chk1 v13 v18), ∀ a x, ((![v13, v18] : Fin 2 → IVec S16 32) a x).toNat < S32x1024.size a := fun v13 v18 k0_hw1 => k0_hw1
def k0_off3 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c256_i32 : BitVec 32 := 256#32
  let v2 : BitVec 32 := Scalar.muli v1 c256_i32
  let c0_i32_1 : BitVec 32 := 0#32
  let c1_i32 : BitVec 32 := 1#32
  let arg7 : BitVec 32 := Scf.iv c0_i32_1 c1_i32 k0_t1
  let c32_i32 : BitVec 32 := 32#32
  let v8 : BitVec 32 := Scalar.muli arg7 c32_i32
  let v9 : BitVec 32 := Scalar.addi v2 v8
  let c0_i32_11_r2 : BitVec 32 := 0#32
  ![v9.toNat, 0]
@[reducible] def k0_t3_loop : Scf.Loop 32 :=
  let c0_i32_7 : BitVec 32 := 0#32
  let c2_i32_8 : BitVec 32 := 2#32
  let v10 : BitVec 32 := Scalar.addi c0_i32_7 c2_i32_8
  let c1_i32_9 : BitVec 32 := 1#32
  ⟨c0_i32_7, v10, c1_i32_9⟩
def k0_off4 (k0_t1 : Fin k0_t1_loop.trips) (k0_t3 : Fin k0_t3_loop.trips) : Fin 1 → Nat :=
  let c0_i32_1 : BitVec 32 := 0#32
  let c1_i32 : BitVec 32 := 1#32
  let arg7 : BitVec 32 := Scf.iv c0_i32_1 c1_i32 k0_t1
  let c32_i32_11 : BitVec 32 := 32#32
  let v14 : BitVec 32 := Scalar.muli arg7 c32_i32_11
  let c0_i32_7 : BitVec 32 := 0#32
  let c1_i32_9 : BitVec 32 := 1#32
  let arg8 : BitVec 32 := Scf.iv c0_i32_7 c1_i32_9 k0_t3
  let c16_i32_12 : BitVec 32 := 16#32
  let v15 : BitVec 32 := Scalar.muli arg8 c16_i32_12
  let v16 : BitVec 32 := Scalar.addi v14 v15
  let v17 : Index := Scalar.indexCast v16
  ![v17.toNat]

def k0_chk2 (v13 : IVec S16 32) (v18 : IVec S16 32) : Prop :=
  (∀ a x, ((![v13, v18] : Fin 2 → IVec S16 32) a x).toNat < S32x1024.size a)
theorem k0_idx2_inb : ∀ (v13 : IVec S16 32) (v18 : IVec S16 32) (k0_hw2 : k0_chk2 v13 v18), ∀ a x, ((![v13, v18] : Fin 2 → IVec S16 32) a x).toNat < S32x1024.size a := fun v13 v18 k0_hw2 => k0_hw2
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== OnehotReferenceIdeal.lean ====
abbrev S8192 : Shape := ⟨1, ![8192]⟩
abbrev S_ : Shape := ⟨0, ![]⟩
abbrev S8192x1024 : Shape := ⟨2, ![8192, 1024]⟩
abbrev S8192x1 : Shape := ⟨2, ![8192, 1]⟩
abbrev S8192x2 : Shape := ⟨2, ![8192, 2]⟩

abbrev nBuf : Space → Nat
  | .hbm => 24
  | .vmem => 0
  | .smem => 0
  | _ => 0

abbrev bufTy : (tb : Table) → Fin (tcTables nBuf tb) → BufTy
  | .hbm, ⟨0, _⟩ => ⟨S8192, .i32⟩
  | .hbm, ⟨1, _⟩ => ⟨S_, .f32⟩
  | .hbm, ⟨2, _⟩ => ⟨S8192x1024, .f32⟩
  | .hbm, ⟨3, _⟩ => ⟨S8192, .i32⟩
  | .hbm, ⟨4, _⟩ => ⟨S_, .i32⟩
  | .hbm, ⟨5, _⟩ => ⟨S8192, .i32⟩
  | .hbm, ⟨6, _⟩ => ⟨S8192, .i1⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S_, .i32⟩
  | .hbm, ⟨15, _⟩ => ⟨S8192, .i32⟩
  | .hbm, ⟨16, _⟩ => ⟨S8192, .i32⟩
  | .hbm, ⟨17, _⟩ => ⟨S8192, .i32⟩
  | .hbm, ⟨18, _⟩ => ⟨S8192x1, .i32⟩
  | .hbm, ⟨19, _⟩ => ⟨S8192x1, .i32⟩
  | .hbm, ⟨20, _⟩ => ⟨S8192x2, .i32⟩
  | .hbm, ⟨21, _⟩ => ⟨S_, .f32⟩
  | .hbm, ⟨22, _⟩ => ⟨S8192, .f32⟩
  | .hbm, ⟨23, _⟩ => ⟨S8192x1024, .f32⟩
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_c_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Proof.Least.lean ====
/-
  The index of the least of 1024 extended reals, the first where there are ties (`least`), and the two ways of computing
  it: a kernel's (the least value, then the least of the positions that hold it: `minsi_eq_least`) and a reference's
  `argmin` (one fold over (value, position) pairs: `argmin_fold_eq_least`). Nothing here names a program.
-/
module

public import Idealize.ShloMosaic.PureOps.Ideal.Laws
public import Idealize.ShloMosaic.Lib.WordCmp
public import Idealize.ShloMosaic.Lib.SortNet.Extract

@[expose] public section

noncomputable section

namespace Cert.Hand

open Idealize.ShloMosaic

/-- `k` is the first position of the least value of `s`. -/
def IsLeast (s : Fin 1024 → EReal) (k : Fin 1024) : Prop := (∀ i, s k ≤ s i) ∧ ∀ i, s i = s k → k ≤ i

theorem IsLeast.unique {s : Fin 1024 → EReal} {k l : Fin 1024} (hk : IsLeast s k) (hl : IsLeast s l) : k = l :=
  have e : s k = s l := le_antisymm (hk.1 l) (hl.1 k)
  le_antisymm (hk.2 l e.symm) (hl.2 k e)

theorem exists_isLeast (s : Fin 1024 → EReal) : ∃ k, IsLeast s k := by
  obtain ⟨m, _, hm⟩ := Finset.exists_min_image Finset.univ s ⟨0, Finset.mem_univ _⟩
  have hne : (Finset.univ.filter fun i => s i = s m).Nonempty := ⟨m, by simp⟩
  refine ⟨(Finset.univ.filter fun i => s i = s m).min' hne, ?_, ?_⟩
  · have := (Finset.mem_filter.1 (Finset.min'_mem _ hne)).2
    intro i; rw [this]; exact hm i (Finset.mem_univ _)
  · intro i hi
    have := (Finset.mem_filter.1 (Finset.min'_mem _ hne)).2
    exact Finset.min'_le _ i (by simpa using hi.trans this)

/-- The first position of the least value. -/
def least (s : Fin 1024 → EReal) : Fin 1024 := (exists_isLeast s).choose

theorem isLeast_least (s : Fin 1024 → EReal) : IsLeast s (least s) := (exists_isLeast s).choose_spec

theorem eq_least {s : Fin 1024 → EReal} {k : Fin 1024} (h : IsLeast s k) : k = least s := h.unique (isLeast_least s)

/-- The fold of `min` from +∞ is the value at that position. -/
theorem fold_min_eq (s : Fin 1024 → EReal) : (Finset.univ : Finset (Fin 1024)).fold min ⊤ s = s (least s) := by
  refine le_antisymm ?_ ?_
  · exact (Finset.fold_min_le _).2 (Or.inr ⟨least s, Finset.mem_univ _, le_rfl⟩)
  · exact (Finset.le_fold_min _).2 ⟨le_top, fun i _ => (isLeast_least s).1 i⟩

theorem toInt_pos (k : Nat) (h : k ≤ 1024) : (BitVec.ofNat 32 k).toInt = k := by
  rw [BitVec.toInt_eq_toNat_cond, BitVec.toNat_ofNat, Nat.mod_eq_of_lt (by omega), if_pos (by omega)]

/-- The kernel's index: the least, as signed words, of the positions that hold the least value, 1024 standing where the
    value is another. -/
theorem minsi_eq_least (s : Fin 1024 → EReal) (w : Fin 1024 → BitVec 32)
    (hw : ∀ i, w i = if s i = s (least s) then BitVec.ofNat 32 i.val else 1024#32) :
    (Finset.univ : Finset (Fin 1024)).fold IKind.minsi.op 2147483647#32 w = BitVec.ofNat 32 (least s).val := by
  apply BitVec.eq_of_toInt_eq
  have hom := Finset.fold_hom (s := (Finset.univ : Finset (Fin 1024))) (f := w) (b := 2147483647#32)
    (op := IKind.minsi.op) (op' := (min : Int → Int → Int)) (m := BitVec.toInt) (hm := fun a b => SortNet.toInt_minsi a b)
  rw [← hom, toInt_pos _ (le_of_lt (least s).isLt)]
  refine le_antisymm ?_ ?_
  · refine (Finset.fold_min_le _).2 (Or.inr ⟨least s, Finset.mem_univ _, ?_⟩)
    rw [hw, if_pos rfl, toInt_pos _ (le_of_lt (least s).isLt)]
  · refine (Finset.le_fold_min _).2 ⟨?_, fun i _ => ?_⟩
    · have := (least s).isLt
      show ((least s).val : Int) ≤ 2147483647
      omega
    · rw [hw]
      by_cases e : s i = s (least s)
      · rw [if_pos e, toInt_pos _ (le_of_lt i.isLt)]
        exact Int.ofNat_le.2 ((isLeast_least s).2 i e)
      · rw [if_neg e]
        have := (least s).isLt
        show ((least s).val : Int) ≤ 1024
        omega

/-! ## The reference's fold over (value, position) pairs -/

/-- `p` comes no later than `q`: a smaller value, or the same value and a position no greater. -/
def Before (p q : EReal × BitVec 32) : Prop := p.1 < q.1 ∨ (p.1 = q.1 ∧ p.2.toInt ≤ q.2.toInt)

theorem Before.refl (p : EReal × BitVec 32) : Before p p := Or.inr ⟨rfl, le_rfl⟩

theorem Before.trans {p q r : EReal × BitVec 32} (h : Before p q) (h' : Before q r) : Before p r := by
  rcases h with h | ⟨h, hi⟩ <;> rcases h' with h' | ⟨h', hi'⟩
  · exact Or.inl (h.trans h')
  · exact Or.inl (h' ▸ h)
  · exact Or.inl (h ▸ h')
  · exact Or.inr ⟨h.trans h', hi.trans hi'⟩

/-- What one step of the fold does: it keeps one of the two pairs, one that comes no later than either. -/
def Keeps (f : EReal × BitVec 32 → EReal × BitVec 32 → EReal × BitVec 32) : Prop :=
  ∀ a b, (f a b = a ∧ Before a b) ∨ (f a b = b ∧ Before b a)

theorem foldl_keeps {f : EReal × BitVec 32 → EReal × BitVec 32 → EReal × BitVec 32} (hf : Keeps f) :
    ∀ (l : List (EReal × BitVec 32)) (a : EReal × BitVec 32),
      (l.foldl f a = a ∨ l.foldl f a ∈ l) ∧ Before (l.foldl f a) a ∧ ∀ q ∈ l, Before (l.foldl f a) q
  | [], a => ⟨Or.inl rfl, Before.refl a, fun _ h => nomatch h⟩
  | b :: l, a => by
    obtain ⟨h1, h2, h3⟩ := foldl_keeps hf l (f a b)
    rw [List.foldl_cons]
    rcases hf a b with ⟨e, hb⟩ | ⟨e, hb⟩
    · rw [e] at h1 h2 h3 ⊢
      refine ⟨h1.imp id (List.mem_cons_of_mem _), h2, fun q hq => ?_⟩
      rcases List.mem_cons.1 hq with rfl | hq
      · exact h2.trans hb
      · exact h3 q hq
    · rw [e] at h1 h2 h3 ⊢
      refine ⟨Or.inr ?_, h2.trans hb, fun q hq => ?_⟩
      · rcases h1 with h1 | h1
        · rw [h1]; exact List.mem_cons_self ..
        · exact List.mem_cons_of_mem _ h1
      · rcases List.mem_cons.1 hq with rfl | hq
        · exact h2
        · exact h3 q hq

/-- The fold from (+∞, 0) over a list of exactly the pairs (value, position) ends with the position of the first least value. -/
theorem argmin_fold_eq_least {f : EReal × BitVec 32 → EReal × BitVec 32 → EReal × BitVec 32} (hf : Keeps f)
    (s : Fin 1024 → EReal) (l : List (EReal × BitVec 32)) (hl : ∀ p, p ∈ l ↔ ∃ k : Fin 1024, p = (s k, BitVec.ofNat 32 k.val)) :
    (l.foldl f (⊤, 0#32)).2 = BitVec.ofNat 32 (least s).val := by
  obtain ⟨h1, _, h3⟩ := foldl_keeps hf l (⊤, 0#32)
  have hall : ∀ k : Fin 1024, Before (l.foldl f (⊤, 0#32)) (s k, BitVec.ofNat 32 k.val) := fun k => h3 _ ((hl _).2 ⟨k, rfl⟩)
  obtain ⟨k, hk⟩ : ∃ k : Fin 1024, l.foldl f (⊤, 0#32) = (s k, BitVec.ofNat 32 k.val) := by
    rcases h1 with h1 | h1
    · refine ⟨0, ?_⟩
      have h0 := hall 0
      rw [h1] at h0 ⊢
      rcases h0 with h0 | ⟨h0, _⟩
      · exact absurd h0 (not_lt.2 le_top)
      · exact Prod.ext h0 rfl
    · exact (hl _).1 h1
  have hleast : IsLeast s k := by
    rw [hk] at hall
    refine ⟨fun i => ?_, fun i hi => ?_⟩
    · rcases hall i with h | ⟨h, _⟩
      · exact le_of_lt h
      · exact le_of_eq h
    · rcases hall i with h | ⟨_, h⟩
      · exact absurd h (by show ¬ s k < s i; rw [hi]; exact lt_irrefl _)
      · have h' : (BitVec.ofNat 32 k.val).toInt ≤ (BitVec.ofNat 32 i.val).toInt := h
        rw [toInt_pos _ (le_of_lt k.isLt), toInt_pos _ (le_of_lt i.isLt)] at h'
        exact Fin.le_def.2 (Int.ofNat_le.1 h')
  rw [hk, ← eq_least hleast]

end Cert.Hand

end
-- ==== Proof.Spec.lean ====
/-
  The three results as plain functions of the two arguments, over the extended reals: what both programs are shown to
  compute. Pixels are numbered 0 … 8191 in (batch, row, column) order.
-/
module

public import proofs.«01_k».proof.Proof.Least
public import Idealize.ShloMosaic.Lib.Pointwise
public import Idealize.ShloMosaic.Lib.IdealHost

@[expose] public section

noncomputable section

namespace Cert.Hand

open Idealize.ShloMosaic

/-- The array to be quantized: 8 images of 256 channels of 32 rows of 32 columns. -/
abbrev Images : Shape := ⟨4, ![8, 256, 32, 32]⟩

/-- The codebook: 1024 codes of 256 channels. -/
abbrev Codes : Shape := ⟨2, ![1024, 256]⟩

/-- Channel `c` of pixel `r`. -/
def pixel (x : Images.Idx → EReal) (r : Fin 8192) (c : Fin 256) : EReal :=
  x (ix4 ⟨r.val / 1024, by omega⟩ c ⟨r.val / 32 % 32, by omega⟩ ⟨r.val % 32, by omega⟩)

/-- The squared distance of a pixel of channels `z` to code `k`, multiplied out, the codes' squared lengths given as `s`. -/
def sqDist (z : Fin 256 → EReal) (e : Codes.Idx → EReal) (s : Fin 1024 → EReal) (k : Fin 1024) : EReal :=
  ((∑ c : Fin 256, z c * z c) + s k) - Ideal.ofBits .f32 0x40000000#32 * ∑ c : Fin 256, e (ix2 k c) * z c

/-- The code nearest to a pixel of channels `z`, the first of them where there are ties. -/
def near (z : Fin 256 → EReal) (e : Codes.Idx → EReal) (s : Fin 1024 → EReal) : Fin 1024 := least (sqDist z e s)

/-- The one-hot row of a pixel of channels `z`. -/
def hotAt (z : Fin 256 → EReal) (e : Codes.Idx → EReal) (s : Fin 1024 → EReal) (k : Fin 1024) : EReal :=
  if k = near z e s then 1 else 0

/-- Channel `c` of a quantized pixel: the one-hot row times the codebook. -/
def quantAt (z : Fin 256 → EReal) (e : Codes.Idx → EReal) (s : Fin 1024 → EReal) (c : Fin 256) : EReal :=
  ∑ k : Fin 1024, hotAt z e s k * e (ix2 k c)

/-- The codes' squared lengths. -/
def lengths (e : Codes.Idx → EReal) (k : Fin 1024) : EReal := ∑ c : Fin 256, e (ix2 k c) * e (ix2 k c)

/-- The code of pixel `r`: what the third result holds. -/
def code (x : Images.Idx → EReal) (e : Codes.Idx → EReal) (r : Fin 8192) : Fin 1024 := near (pixel x r) e (lengths e)

/-- The one-hot row of pixel `r`: what the second result holds. -/
def hot (x : Images.Idx → EReal) (e : Codes.Idx → EReal) (r : Fin 8192) (k : Fin 1024) : EReal := hotAt (pixel x r) e (lengths e) k

/-- Channel `c` of the quantized pixel `r`: what the first result holds. -/
def quant (x : Images.Idx → EReal) (e : Codes.Idx → EReal) (r : Fin 8192) (c : Fin 256) : EReal := quantAt (pixel x r) e (lengths e) c

theorem ofBits_inf : Ideal.ofBits .f32 2139095040#32 = ⊤ := by simp [Ideal.ofBits, Ideal.ieee]

end Cert.Hand
-- ==== Proof.KernelBlock.lean ====
/-
  What one half of a kernel block computes, read at an index over the extended reals.
-/
module

public import proofs.«01_k».proof.Proof.Gen.KernelIdeal.Skeleton
public import proofs.«01_k».proof.Proof.Spec

@[expose] public section

noncomputable section

namespace Cert.KernelIdeal.Hand

open Cert.KernelIdeal Cert.KernelIdeal.Gen Cert.Hand Idealize.ShloMosaic Idealize.ShloMosaic.TcCoe

variable (e : FVec Ideal S1024x256 .f32) (es : FVec Ideal S1024x1 .f32) (z : FVec Ideal S1x256x1024 .f32)

/-- The channels of pixel `p` of an image. -/
abbrev chan (p : Fin 1024) : Fin 256 → EReal := fun c => z (ix3 0 c p)

/-- A column as a function of its row. -/
abbrev col : Fin 1024 → EReal := fun k => es (ix2 k 0)

/-- The index a half writes for pixel `p` is the code of the least score, the first where there are ties. -/
theorem pay8_apply (p : Fin 1024) :
    k0_pay8 (F := Ideal) e es z (ix1 p) = BitVec.ofNat 32 (near (chan z p) e (col es)).val := by
  pointwise [k0_pay8]
  refine minsi_eq_least (sqDist (chan z p) e (col es)) _ fun k => ?_
  rw [ofBits_inf]
  exact if_congr (iff_of_eq (congrArg (sqDist (chan z p) e (col es) k = ·) (fold_min_eq (sqDist (chan z p) e (col es))))) rfl rfl

/-- A signed word as a float is its number. -/
theorem sitofp_word (w : BitVec 32) : FloatOps.sitofp (F := Ideal) .f32 w = ((w.toInt : ℝ) : EReal) := rfl

/-- The one-hot rows a half writes. -/
theorem pay10_apply (p k : Fin 1024) :
    k0_pay10 (F := Ideal) e es z (ix2 p k) = hotAt (chan z p) e (col es) k := by
  pointwise [k0_pay10, pay8_apply]
  rw [WordCmp.cmpi_eq_ofNat (by omega) (by omega)]
  rw [sitofp_word]
  unfold hotAt
  by_cases h : k = near (chan z p) e (col es)
  · rw [if_pos h, decide_eq_true (congrArg Fin.val h)]
    have : (BitVec.setWidth 32 (BitVec.ofBool true)).toInt = 1 := by decide
    rw [this]
    norm_num
  · rw [if_neg h, decide_eq_false (fun q => h (Fin.ext q))]
    norm_num

/-- The quantized pixels a half writes: the codebook's channels times the one-hot rows. -/
theorem pay11_apply (c : Fin 256) (p : Fin 1024) : k0_pay11 e es z (ix2 c p) = quantAt (chan z p) e (col es) c := by
  pointwise [k0_pay11, pay10_apply]
  exact Finset.sum_congr rfl fun k _ => mul_comm _ _

/-- What a half stores of the indices, of the quantized pixels and of the one-hot rows, each at an index. The second half's
    text names the column of squared lengths once more (`k0_pay2`, the column itself). -/
theorem pay9_apply (p : Fin 1024) : k0_pay9 (F := Ideal) e es z (ix3 0 0 p) = BitVec.ofNat 32 (near (chan z p) e (col es)).val := by
  pointwise [k0_pay9, pay8_apply]

theorem pay1_apply (c : Fin 256) (p : Fin 1024) : k0_pay1 (k0_pay11 e es z) (ix3 0 c p) = quantAt (chan z p) e (col es) c := by
  pointwise [k0_pay1, pay11_apply]

theorem pay2_eq : k0_pay2 es = es := by
  unfold k0_pay2
  exact shapeCast_self _ _

/-- The first half's indices. -/
theorem pay3_eq : k0_pay3 (F := Ideal) e es z = k0_pay8 (F := Ideal) e es z := by
  funext i
  obtain ⟨p, rfl⟩ : ∃ p : Fin 1024, i = ix1 p := ⟨i 0, funext fun a => by fin_cases a; rfl⟩
  rw [pay8_apply]
  pointwise [k0_pay3, pay2_eq]
  refine minsi_eq_least (sqDist (chan z p) e (col es)) _ fun k => ?_
  rw [ofBits_inf]
  exact if_congr (iff_of_eq (congrArg (sqDist (chan z p) e (col es) k = ·) (fold_min_eq (sqDist (chan z p) e (col es))))) rfl rfl

theorem pay4_eq : k0_pay4 (F := Ideal) e es z = k0_pay9 (F := Ideal) e es z := by
  unfold k0_pay4 k0_pay9
  rw [pay3_eq]

theorem pay5_eq : k0_pay5 (F := Ideal) e es z = k0_pay10 e es z := by
  unfold k0_pay5 k0_pay10
  rw [pay3_eq]

theorem pay6_eq : k0_pay6 (F := Ideal) e es z = k0_pay11 e es z := by
  unfold k0_pay6 k0_pay11
  rw [pay5_eq]

theorem pay7_eq : k0_pay7 (F := Ideal) (k0_pay6 e es z) = k0_pay1 (k0_pay11 e es z) := by
  rw [pay6_eq]
  unfold k0_pay7 k0_pay1
  exact Eq.refl _

end Cert.KernelIdeal.Hand
-- ==== Proof.KernelOut.lean ====
/-
  What the kernel's body leaves in each output block, read at an index: the stores of its two halves as one function of
  the input blocks.
-/
module

public import proofs.«01_k».proof.Proof.Gen.KernelIdeal.Frame
public import proofs.«01_k».proof.Proof.KernelBlock
public import Idealize.ShloMosaic.Lib.Pipeline.Value
public import Idealize.ShloMosaic.Lib.Pipeline.ValueKit

@[expose] public section

noncomputable section

namespace Cert.KernelIdeal.Hand

open Cert.KernelIdeal Cert.KernelIdeal.Gen Cert.Hand Idealize.ShloMosaic Idealize.ShloMosaic.TcCoe

variable (x : Vec Ideal S2x256x1024 .f32) (e : Vec Ideal S1024x256 .f32) (es : Vec Ideal S1024x1 .f32)

/-- The whole codebook is loaded. -/
theorem ld_codes : View.ld e r0_0 = e := View.ld_unit_zero (by funext a; fin_cases a <;> rfl) _ _

/-- The whole column of squared lengths is loaded. -/
theorem ld_lengths : View.ld es r0_1 = es := View.ld_unit_zero (by funext a; fin_cases a <;> rfl) _ _

/-- Where the elements of the two halves' loads and stores sit in their blocks. -/
theorem emb_r2 (b : Fin 256) (p : Fin 1024) : r0_2.emb (ix3 0 b p) = ix3 0 b p := by
  funext i
  refine Fin.ext ((ValueKit.rect_emb_unit_val _ _ _ _ i).trans ?_)
  fin_cases i
  · rfl
  · exact Nat.zero_add _
  · exact Nat.zero_add _

theorem emb_r5 (b : Fin 256) (p : Fin 1024) : r0_5.emb (ix3 0 b p) = ix3 1 b p := by
  funext i
  refine Fin.ext ((ValueKit.rect_emb_unit_val _ _ _ _ i).trans ?_)
  fin_cases i
  · rfl
  · exact Nat.zero_add _
  · exact Nat.zero_add _

theorem emb_r3 (p : Fin 1024) : r0_3.emb (ix3 0 0 p) = ix3 0 0 p := by
  funext i
  refine Fin.ext ((ValueKit.rect_emb_unit_val _ _ _ _ i).trans ?_)
  fin_cases i
  · rfl
  · rfl
  · exact Nat.zero_add _

theorem emb_r6 (p : Fin 1024) : r0_6.emb (ix3 0 0 p) = ix3 1 0 p := by
  funext i
  refine Fin.ext ((ValueKit.rect_emb_unit_val _ _ _ _ i).trans ?_)
  fin_cases i
  · rfl
  · rfl
  · exact Nat.zero_add _

theorem emb_r4 (p k : Fin 1024) : r0_4.emb (ix2 p k) = ix2 (n0 := 2048) ⟨p.val, by omega⟩ k := by
  funext i
  refine Fin.ext ((ValueKit.rect_emb_unit_val _ _ _ _ i).trans ?_)
  fin_cases i
  · exact Nat.zero_add _
  · exact Nat.zero_add _

theorem emb_r7 (p k : Fin 1024) : r0_7.emb (ix2 p k) = ix2 (n0 := 2048) ⟨1024 + p.val, by omega⟩ k := by
  funext i
  refine Fin.ext ((ValueKit.rect_emb_unit_val _ _ _ _ i).trans ?_)
  fin_cases i
  · rfl
  · exact Nat.zero_add _

/-- The channels of pixel `p` of a block's first image, -/
theorem chan_first (p : Fin 1024) : chan (View.ld x r0_2) p = fun c => x (ix3 0 c p) :=
  funext fun c => congrArg x (emb_r2 c p)

/-- and of its second. -/
theorem chan_second (p : Fin 1024) : chan (View.ld x r0_5) p = fun c => x (ix3 1 c p) :=
  funext fun c => congrArg x (emb_r5 c p)

/-- The block of quantized pixels. -/
def G3 (i : S2x256x1024.Idx) : EReal := quantAt (fun c => x (ix3 (i 0) c (i 2))) e (col es) (i 1)

/-- The block of one-hot rows: the rows of the first image, then those of the second. -/
def G4 (i : S2048x1024.Idx) : EReal :=
  hotAt (fun c => x (ix3 ⟨(i 0).val / 1024, by have := (i 0).isLt; change (i 0).val < 2048 at this; omega⟩ c ⟨(i 0).val % 1024, by omega⟩)) e (col es) (i 1)

/-- The block of indices. -/
def G5 (i : S2x1x1024.Idx) : BitVec 32 := BitVec.ofNat 32 (near (fun c => x (ix3 (i 0) c (i 2))) e (col es)).val

/-- An index of a block of one image, its first coordinate being zero, -/
theorem unit3 (j : S1x256x1024.Idx) : j = ix3 0 (j 1) (j 2) := by
  funext a
  fin_cases a
  · exact Subsingleton.elim (α := Fin 1) _ _
  · rfl
  · rfl

/-- and of a row of indices. -/
theorem units3 (j : S1x1x1024.Idx) : j = ix3 0 0 (j 2) := by
  funext a
  fin_cases a
  · exact Subsingleton.elim (α := Fin 1) _ _
  · exact Subsingleton.elim (α := Fin 1) _ _
  · rfl

/-- A row of the second image's half is the row of that image. -/
theorem G4_second (p k : Fin 1024) : G4 x e es (ix2 (n0 := 2048) ⟨1024 + p.val, by omega⟩ k) = hotAt (fun c => x (ix3 1 c p)) e (col es) k := by
  have h0 : (1024 + p.val) / 1024 = 1 := by omega
  have h1 : (1024 + p.val) % 1024 = p.val := by omega
  show hotAt (fun c => x (ix3 ⟨(1024 + p.val) / 1024, _⟩ c ⟨(1024 + p.val) % 1024, _⟩)) e (col es) k = _
  simp only [h0, h1]
  rfl

/-- A row of the first image's half is the row of that image. -/
theorem G4_first (p k : Fin 1024) : G4 x e es (ix2 (n0 := 2048) ⟨p.val, by omega⟩ k) = hotAt (fun c => x (ix3 0 c p)) e (col es) k := by
  have h0 : p.val / 1024 = 0 := by omega
  have h1 : p.val % 1024 = p.val := by omega
  show hotAt (fun c => x (ix3 ⟨p.val / 1024, _⟩ c ⟨p.val % 1024, _⟩)) e (col es) k = _
  simp only [h0, h1]
  rfl

theorem out3_eq : out0_3 (F := Ideal) x e es = G3 x e es := by
  funext i
  unfold out0_3 k0_pay12
  rw [ld_codes, ld_lengths, pay7_eq, pay2_eq]
  refine View.canon_apply_of_pieces (Val := Elt Ideal) (G3 x e es) _ (fun p hp => ?_) i (cover0_3 _ _ i)
  simp only [List.mem_cons, List.not_mem_nil, or_false] at hp
  rcases hp with rfl | rfl
  · intro j
    obtain ⟨b, p, rfl⟩ : ∃ (b : Fin 256) (p : Fin 1024), j = ix3 0 b p := ⟨j 1, j 2, unit3 j⟩
    exact (pay1_apply e es (View.ld x r0_5) b p).trans ((congrArg (fun z => quantAt z e (col es) b) (chan_second x p)).trans (congrArg (G3 x e es) (emb_r5 b p)).symm)
  · intro j
    obtain ⟨b, p, rfl⟩ : ∃ (b : Fin 256) (p : Fin 1024), j = ix3 0 b p := ⟨j 1, j 2, unit3 j⟩
    exact (pay1_apply e es (View.ld x r0_2) b p).trans ((congrArg (fun z => quantAt z e (col es) b) (chan_first x p)).trans (congrArg (G3 x e es) (emb_r2 b p)).symm)

theorem out4_eq : out0_4 (F := Ideal) x e es = G4 x e es := by
  funext i
  unfold out0_4 k0_pay12
  rw [ld_codes, ld_lengths, pay5_eq, pay2_eq]
  refine View.canon_apply_of_pieces (Val := Elt Ideal) (G4 x e es) _ (fun p hp => ?_) i (cover0_4 _ _ i)
  simp only [List.mem_cons, List.not_mem_nil, or_false] at hp
  rcases hp with rfl | rfl
  · intro j
    obtain ⟨p, k, rfl⟩ : ∃ p k : Fin 1024, j = ix2 p k := ⟨j 0, j 1, by funext a; fin_cases a <;> rfl⟩
    exact (pay10_apply e es (View.ld x r0_5) p k).trans ((congrArg (fun z => hotAt z e (col es) k) (chan_second x p)).trans ((congrArg (G4 x e es) (emb_r7 p k)).trans (G4_second x e es p k)).symm)
  · intro j
    obtain ⟨p, k, rfl⟩ : ∃ p k : Fin 1024, j = ix2 p k := ⟨j 0, j 1, by funext a; fin_cases a <;> rfl⟩
    exact (pay10_apply e es (View.ld x r0_2) p k).trans ((congrArg (fun z => hotAt z e (col es) k) (chan_first x p)).trans ((congrArg (G4 x e es) (emb_r4 p k)).trans (G4_first x e es p k)).symm)

theorem out5_eq : out0_5 (F := Ideal) x e es = G5 x e es := by
  funext i
  unfold out0_5 k0_pay12
  rw [ld_codes, ld_lengths, pay4_eq, pay2_eq]
  refine View.canon_apply_of_pieces (Val := Elt Ideal) (G5 x e es) _ (fun p hp => ?_) i (cover0_5 _ _ i)
  simp only [List.mem_cons, List.not_mem_nil, or_false] at hp
  rcases hp with rfl | rfl
  · intro j
    obtain ⟨p, rfl⟩ : ∃ p : Fin 1024, j = ix3 0 0 p := ⟨j 2, units3 j⟩
    have h := pay9_apply e es (View.ld x r0_5) p
    rw [chan_second] at h

    dsimp only
    rw [emb_r6, h]
    delta G5
    exact Eq.refl _
  · intro j
    obtain ⟨p, rfl⟩ : ∃ p : Fin 1024, j = ix3 0 0 p := ⟨j 2, units3 j⟩
    have h := pay9_apply e es (View.ld x r0_2) p
    rw [chan_first] at h

    dsimp only
    rw [emb_r3, h]
    delta G5
    exact Eq.refl _

end Cert.KernelIdeal.Hand
-- ==== Proof.KernelArrays.lean ====
/-
  What the pipeline leaves in its three output arrays, as functions of the arrays it reads.
-/
module

public import proofs.«01_k».proof.Proof.KernelOut

@[expose] public section

noncomputable section

namespace Cert.KernelIdeal.Hand

open Cert.KernelIdeal Cert.KernelIdeal.Gen Cert.Hand Idealize.ShloMosaic Idealize.ShloMosaic.TcCoe

/-- The arrays as functions of the images `X` (by image, channel, pixel), the codebook `E` and its squared lengths `L`. -/
def A3 (X : Vec Ideal S8x256x1024 .f32) (E : Vec Ideal S1024x256 .f32) (L : Vec Ideal S1024x1 .f32) (i : S8x256x1024.Idx) : EReal :=
  quantAt (fun c => X (ix3 (i 0) c (i 2))) E (col L) (i 1)

def A4 (X : Vec Ideal S8x256x1024 .f32) (E : Vec Ideal S1024x256 .f32) (L : Vec Ideal S1024x1 .f32) (i : S8192x1024.Idx) : EReal :=
  hotAt (fun c => X (ix3 ⟨(i 0).val / 1024, by have := (i 0).isLt; change (i 0).val < 8192 at this; omega⟩ c ⟨(i 0).val % 1024, by omega⟩)) E (col L) (i 1)

def A5 (X : Vec Ideal S8x256x1024 .f32) (E : Vec Ideal S1024x256 .f32) (L : Vec Ideal S1024x1 .f32) (i : S8x1x1024.Idx) : BitVec 32 :=
  BitVec.ofNat 32 (near (fun c => X (ix3 (i 0) c (i 2))) E (col L)).val

variable (m : (ℓ : Loc nD τ sig) → Buf (Elt Ideal) ℓ) (c : Dev nD)

/-- The windows' block indices. -/
theorem index0 : ∀ t : Fin cfg0.N, win0_0.index t = ![t.val, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![t.val, 0, 0] := (by decide +kernel : ∀ t : Fin grid0.N, _)
theorem index4 : ∀ t : Fin cfg0.N, win0_4.index t = ![t.val, 0] := (by decide +kernel : ∀ t : Fin grid0.N, _)
theorem index5 : ∀ t : Fin cfg0.N, win0_5.index t = ![t.val, 0, 0] := (by decide +kernel : ∀ t : Fin grid0.N, _)

/-- Every point reads the whole codebook -/
theorem iblk_codes (t : Fin cfg0.N) : iblk m c 1 t = V m c main_arg1 := by
  funext y
  blk_simp [iblk]
  refine congrArg (V m c main_arg1) ?_
  blk_ext [index1]

/-- and the whole column of squared lengths. -/
theorem iblk_lengths (t : Fin cfg0.N) : iblk m c 2 t = V m c main_call0_v3 := by
  funext y
  blk_simp [iblk]
  refine congrArg (V m c main_call0_v3) ?_
  blk_ext [index2]

/-- Point `t` reads the images `2 t` and `2 t + 1`. -/
theorem iblk_images (t : Fin cfg0.N) (a : Fin 2) (ch : Fin 256) (p : Fin 1024) (b : Fin 8) (hb : b.val = t.val * 2 + a.val) :
    iblk m c 0 t (ix3 a ch p) = V m c main_call0_v0 (ix3 b ch p) := by
  blk_simp [iblk]
  refine congrArg (V m c main_call0_v0) ?_
  blk_ext [index0]

/-- A point writes its part of the quantized pixels, -/
theorem final3 : (dats m 0 c).arrAt 3 cfg0.N = A3 (V m c main_call0_v0) (V m c main_arg1) (V m c main_call0_v3) := by
  refine (dats m 0 c).arrAt_eq_of_covers 3 _ (by decide +kernel) fun t hf y => ?_
  blk_simp
  rw [after0_3, out3_eq, iblk_codes, iblk_lengths]
  have h0 : ((win0_3.blk t).view.emb y 0 : ℕ) = t.val * 2 + (y 0 : ℕ) := by blk_simp [index3]
  have h1 : (win0_3.blk t).view.emb y 1 = y 1 := Fin.ext (by blk_simp [index3])
  have h2 : (win0_3.blk t).view.emb y 2 = y 2 := Fin.ext (by blk_simp [index3])
  unfold G3 A3
  rw [h1, h2]
  refine congrArg (fun z => quantAt z _ _ (y 1)) (funext fun ch => ?_)
  exact iblk_images m c t (y 0) ch (y 2) _ h0

/-- of the one-hot rows -/
theorem final4 : (dats m 0 c).arrAt 4 cfg0.N = A4 (V m c main_call0_v0) (V m c main_arg1) (V m c main_call0_v3) := by
  refine (dats m 0 c).arrAt_eq_of_covers 4 _ (by decide +kernel) fun t hf y => ?_
  blk_simp
  rw [after0_4, out4_eq, iblk_codes, iblk_lengths]
  have h0 : ((win0_4.blk t).view.emb y 0 : ℕ) = t.val * 2048 + (y 0 : ℕ) := by blk_simp [index4]
  have h1 : (win0_4.blk t).view.emb y 1 = y 1 := Fin.ext (by blk_simp [index4])
  have hq : (t.val * 2048 + (y 0 : ℕ)) / 1024 = t.val * 2 + (y 0 : ℕ) / 1024 := by omega
  have hr : (t.val * 2048 + (y 0 : ℕ)) % 1024 = (y 0 : ℕ) % 1024 := by omega
  unfold G4 A4
  rw [h1]
  refine congrArg (fun z => hotAt z _ _ (y 1)) (funext fun ch => ?_)
  simp only [h0, hr]
  exact iblk_images m c t ⟨(y 0 : ℕ) / 1024, _⟩ ch ⟨(y 0 : ℕ) % 1024, _⟩ _ hq

/-- and of the indices. -/
theorem final5 : (dats m 0 c).arrAt 5 cfg0.N = A5 (V m c main_call0_v0) (V m c main_arg1) (V m c main_call0_v3) := by
  refine (dats m 0 c).arrAt_eq_of_covers 5 _ (by decide +kernel) fun t hf y => ?_
  blk_simp
  rw [after0_5, out5_eq, iblk_codes, iblk_lengths]
  have h0 : ((win0_5.blk t).view.emb y 0 : ℕ) = t.val * 2 + (y 0 : ℕ) := by blk_simp [index5]
  have h2 : (win0_5.blk t).view.emb y 2 = y 2 := Fin.ext (by blk_simp [index5])
  delta G5 A5
  dsimp only
  rw [h2]
  refine congrArg (fun z => BitVec.ofNat 32 (near z _ _).val) (funext fun ch => ?_)
  exact iblk_images m c t (y 0) ch (y 2) _ h0

end Cert.KernelIdeal.Hand
-- ==== Proof.KernelRun.lean ====
/-
  The host lines round the pipeline, and the kernel's run: its three results as functions of its arguments.
-/
module

public import proofs.«01_k».proof.Proof.KernelArrays
public import Idealize.ShloMosaic.Lib.StableHlo.ReadAt
public import Idealize.ShloMosaic.Lib.Pointwise

@[expose] public section

noncomputable section

namespace Cert.KernelIdeal.Hand

open Cert.KernelIdeal Cert.KernelIdeal.Gen Cert.Hand Idealize.ShloMosaic Idealize.ShloMosaic.TcCoe Idealize.SL.Sem

variable (m : (ℓ : Loc nD τ sig) → Buf (Elt Ideal) ℓ) (ρ : Dev nD → PrngReg) (c : Dev nD)

/-- The images with their pixels in one axis. -/
theorem V_images (b : Fin 8) (ch : Fin 256) (p : Fin 1024) :
    V m c main_call0_v0 (ix3 b ch p)
      = (m ((c : Thread nD τ).loc main_arg0) : Vec Ideal S8x256x32x32 .f32) (ix4 b ch ⟨p.val / 32, by omega⟩ ⟨p.val % 32, by omega⟩) := by
  unfold V V0
  after_reads_at

/-- The squared lengths of the codes. -/
theorem V_lengths (k : Fin 1024) :
    V m c main_call0_v3 (ix2 k 0) = lengths (m ((c : Thread nD τ).loc main_arg1)) k := by
  unfold V V0
  after_reads_at
  rfl

/-- Pixel `p` of image `b`, as the kernel reads it, -/
theorem images_pixel (b : Fin 8) (p : Fin 1024) (r : Fin 8192) (hb : b.val = r.val / 1024) (hp : p.val = r.val % 1024) :
    (fun ch => V m c main_call0_v0 (ix3 b ch p)) = pixel (m ((c : Thread nD τ).loc main_arg0)) r := by
  funext ch
  rw [V_images]
  refine congrArg (m ((c : Thread nD τ).loc main_arg0) : Vec Ideal S8x256x32x32 .f32) ?_
  funext i
  apply Fin.ext
  fin_cases i
  · exact hb
  · rfl
  · show p.val / 32 = r.val / 32 % 32
    omega
  · show p.val % 32 = r.val % 32
    omega

/-- and the squared lengths as it reads them. -/
theorem col_lengths : col (V m c main_call0_v3) = lengths (m ((c : Thread nD τ).loc main_arg1)) := funext fun k => V_lengths m c k

/-- The valuation the lines after the pipeline start from. -/
abbrev W0 : Valuation τ sig (Elt Ideal) :=
  Pipeline.withArrays (cfgs 0).spec c (V0 m c) fun w => (dats m 0 c).arrAt w (cfgs 0).N

/-- It holds the pipeline's arrays. -/
theorem W0_quant : W0 m c (Proc.devRef .tc main_call0_v4_0) = A3 (V m c main_call0_v0) (V m c main_arg1) (V m c main_call0_v3) :=
  (Pipeline.withArrays_arr (cfgs 0).spec (by decide) c (V0 m c) _ 3).trans (final3 m c)

theorem W0_index : W0 m c (Proc.devRef .tc main_call0_v4_2) = A5 (V m c main_call0_v0) (V m c main_arg1) (V m c main_call0_v3) :=
  (Pipeline.withArrays_arr (cfgs 0).spec (by decide) c (V0 m c) _ 5).trans (final5 m c)

/-- The pipeline's array of indices at a pixel. -/
theorem array_index (r : Fin 8192) :
    W0 m c (Proc.devRef .tc main_call0_v4_2) (ix3 (n0 := 8) (n1 := 1) (n2 := 1024) ⟨r.val / 1024, by omega⟩ 0 ⟨r.val % 1024, by omega⟩)
      = BitVec.ofNat 32 (code (m ((c : Thread nD τ).loc main_arg0)) (m ((c : Thread nD τ).loc main_arg1)) r).val := by
  refine (congrFun (W0_index m c) _).trans ?_
  delta A5 code
  refine congrArg (fun k : Fin 1024 => BitVec.ofNat 32 k.val) ?_
  show near (fun ch => V m c main_call0_v0 (ix3 ⟨r.val / 1024, _⟩ ch ⟨r.val % 1024, _⟩)) (V m c main_arg1) (col (V m c main_call0_v3)) = _
  rw [images_pixel m c _ _ r rfl rfl, col_lengths, V_main_arg1]

/-- The quantized images as the run leaves them. -/
theorem tail_quant (b : Fin 8) (ch : Fin 256) (h w : Fin 32) :
    Pipeline.afterTail₀ cfgs (dats m) 0 (V0 m) [hostOps1] c main_v0_0 (ix4 b ch h w)
      = quant (m ((c : Thread nD τ).loc main_arg0)) (m ((c : Thread nD τ).loc main_arg1)) ⟨b.val * 1024 + h.val * 32 + w.val, by omega⟩ ch := by
  unfold Pipeline.afterTail₀
  show StableHlo.after _ (W0 m c) _ _ = _
  generalize hW : W0 m c = W
  after_reads_at
  subst hW
  refine (congrFun (W0_quant m c) _).trans ?_
  show quantAt (fun ch => V m c main_call0_v0 (ix3 b ch ⟨h.val * 32 + w.val, _⟩)) (V m c main_arg1) (col (V m c main_call0_v3)) ch = _
  rw [images_pixel m c b _ ⟨b.val * 1024 + h.val * 32 + w.val, by omega⟩ (by show b.val = (b.val * 1024 + h.val * 32 + w.val) / 1024; omega)
    (by show h.val * 32 + w.val = (b.val * 1024 + h.val * 32 + w.val) % 1024; omega), col_lengths, V_main_arg1]
  rfl

/-- The column of indices as the run leaves it. -/
theorem tail_index (r : Fin 8192) :
    Pipeline.afterTail₀ cfgs (dats m) 0 (V0 m) [hostOps1] c main_v0_2 (ix2 r 0)
      = BitVec.ofNat 32 (code (m ((c : Thread nD τ).loc main_arg0)) (m ((c : Thread nD τ).loc main_arg1)) r).val := by
  unfold Pipeline.afterTail₀
  show StableHlo.after _ (W0 m c) _ _ = _
  generalize hW : W0 m c = W
  after_reads_at
  subst hW
  exact array_index m c r

/-- The one-hot rows as the run leaves them. -/
theorem array_hot (r : Fin 8192) (k : Fin 1024) :
    (dats m 0 c).arrAt 4 cfg0.N (ix2 r k) = hot (m ((c : Thread nD τ).loc main_arg0)) (m ((c : Thread nD τ).loc main_arg1)) r k := by
  refine (congrFun (final4 m c) _).trans ?_
  show hotAt (fun ch => V m c main_call0_v0 (ix3 ⟨r.val / 1024, _⟩ ch ⟨r.val % 1024, _⟩)) (V m c main_arg1) (col (V m c main_call0_v3)) k = _
  rw [images_pixel m c _ _ r rfl rfl, col_lengths, V_main_arg1]
  rfl

/-- The kernel's run: every final state holds the three results, and the arguments as launched. -/
theorem run : θ_run defs (onTc (τ := τ) (main (F := Ideal))) ⟨m, fun _ => 0, ρ⟩ fun r => ∀ c : Dev nD,
      (∀ b ch h w, r.2.mem ((c : Thread nD τ).loc main_v0_0) (ix4 b ch h w)
        = quant (m ((c : Thread nD τ).loc main_arg0)) (m ((c : Thread nD τ).loc main_arg1)) ⟨b.val * 1024 + h.val * 32 + w.val, by omega⟩ ch)
      ∧ (∀ i k, r.2.mem ((c : Thread nD τ).loc main_v0_1) (ix2 i k)
        = hot (m ((c : Thread nD τ).loc main_arg0)) (m ((c : Thread nD τ).loc main_arg1)) i k)
      ∧ (∀ i, r.2.mem ((c : Thread nD τ).loc main_v0_2) (ix2 i 0)
        = BitVec.ofNat 32 (code (m ((c : Thread nD τ).loc main_arg0)) (m ((c : Thread nD τ).loc main_arg1)) i).val)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨
      fun b ch y w => (congrFun ((h c).2 main_v0_0 (Pipeline.mem_restRefs_of main_v0_0 (by decide) (by decide))) _).trans (tail_quant m c b ch y w),
      fun i k => (congrFun ((h c).1 4) _).trans (array_hot m c i k),
      fun i => (congrFun ((h c).2 main_v0_2 (Pipeline.mem_restRefs_of main_v0_2 (by decide) (by decide))) _).trans (tail_index m c i),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.Hand
-- ==== Proof.RefRun.lean ====
/-
  The reference's run. @main of the reference is a straight line of 52 host operations; `run` says that it terminates and
  what its three results hold, each as a named stage over the two arguments: the distances (`dist`), the index of each
  row's least distance (`argmin`), the one-hot rows (`enc`) and the quantized array (`zq`).
-/
module

public import proofs.«01_k».proof.Proof.Gen.ReferenceIdeal
public import Idealize.ShloMosaic.Lib.StableHlo.Run
public import Idealize.ShloMosaic.Lib.Quiescent

@[expose] public section

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- Each row's least value with its index: the reference's `argmin` reduction. -/
def argPair (x : FVec F S8192x1024 .f32) (y : IVec S8192x1024 32) (u : FVec F S_ .f32) (v : IVec S_ 32) : S8192.Idx → F .f32 × BitVec 32 :=
  Host.argReduce reducer_argmin_f32_i32 x y u v reducesTo_S8192x1024_S8192_d1 h_S_

/-- The least value of each row, the first component of the reference's `argmin` reduction. -/
def minF (x : (⟨S8192x1024, .f32⟩ : BufTy).Contents (Elt F)) (y : (⟨S8192x1024, .i32⟩ : BufTy).Contents (Elt F))
    (u : (⟨S_, .f32⟩ : BufTy).Contents (Elt F)) (v : (⟨S_, .i32⟩ : BufTy).Contents (Elt F)) : (⟨S8192, .f32⟩ : BufTy).Contents (Elt F) :=
  fun j => (argPair x y u v j).1

/-- The index of each row's least value, the second component of the reference's `argmin` reduction. -/
def argminF (x : (⟨S8192x1024, .f32⟩ : BufTy).Contents (Elt F)) (y : (⟨S8192x1024, .i32⟩ : BufTy).Contents (Elt F))
    (u : (⟨S_, .f32⟩ : BufTy).Contents (Elt F)) (v : (⟨S_, .i32⟩ : BufTy).Contents (Elt F)) : (⟨S8192, .i32⟩ : BufTy).Contents (Elt F) :=
  fun j => (argPair x y u v j).2

/-- Two columns of words side by side: the (row, code) pairs the one-hot scatter reads. -/
def pairF (a b : (⟨S8192x1, .i32⟩ : BufTy).Contents (Elt F)) : (⟨S8192x2, .i32⟩ : BufTy).Contents (Elt F) :=
  concatenate S8192x2 1 [⟨S8192x1, a⟩, ⟨S8192x1, b⟩] concatenates_S8192x1_S8192x1_S8192x2_d1

set_option maxRecDepth 8192 in
/-- The operations of the reference's @main, in order. -/
abbrev ops : List (HloOp τ sig (Elt F)) :=
  [ unary main_arg0 main_v0 ((transpose S8x32x32x256 [0, 2, 3, 1] · transposes_S8x256x32x32_S8x32x32x256_0_2_3_1) : (⟨S8x256x32x32, .f32⟩ : BufTy).Contents (Elt F) → (⟨S8x32x32x256, .f32⟩ : BufTy).Contents (Elt F)),
    reshape main_v0 main_v1 (rfl : (.f32 : EltTy) = .f32) shapeCasts_S8x32x32x256_S8192x256,
    binary main_v1 main_v1 main_v2 (mulf : (⟨S8192x256, .f32⟩ : BufTy).Contents (Elt F) → (⟨S8192x256, .f32⟩ : BufTy).Contents (Elt F) → (⟨S8192x256, .f32⟩ : BufTy).Contents (Elt F)),
    nullary main_cst (constant S_ .f32 0x00000000#32),
    binary main_v2 main_cst main_v3 ((fun x v => Host.reduceAdd x v reducesTo_S8192x256_S8192_d1 h_S_) : (⟨S8192x256, .f32⟩ : BufTy).Contents (Elt F) → (⟨S_, .f32⟩ : BufTy).Contents (Elt F) → (⟨S8192, .f32⟩ : BufTy).Contents (Elt F)),
    unary main_v3 main_v4 (broadcastInDim S8192x1 ![0] bcast_S8192_S8192x1_0 : (⟨S8192, .f32⟩ : BufTy).Contents (Elt F) → (⟨S8192x1, .f32⟩ : BufTy).Contents (Elt F)),
    binary main_arg1 main_arg1 main_v5 (mulf : (⟨S1024x256, .f32⟩ : BufTy).Contents (Elt F) → (⟨S1024x256, .f32⟩ : BufTy).Contents (Elt F) → (⟨S1024x256, .f32⟩ : BufTy).Contents (Elt F)),
    nullary main_cst_0 (constant S_ .f32 0x00000000#32),
    binary main_v5 main_cst_0 main_v6 ((fun x v => Host.reduceAdd x v reducesTo_S1024x256_S1024_d1 h_S_) : (⟨S1024x256, .f32⟩ : BufTy).Contents (Elt F) → (⟨S_, .f32⟩ : BufTy).Contents (Elt F) → (⟨S1024, .f32⟩ : BufTy).Contents (Elt F)),
    unary main_v6 main_v7 (broadcastInDim S1x1024 ![1] bcast_S1024_S1x1024_1 : (⟨S1024, .f32⟩ : BufTy).Contents (Elt F) → (⟨S1x1024, .f32⟩ : BufTy).Contents (Elt F)),
    unary main_v4 main_v8 (broadcastInDim S8192x1024 ![0, 1] bcast_S8192x1_S8192x1024_0_1 : (⟨S8192x1, .f32⟩ : BufTy).Contents (Elt F) → (⟨S8192x1024, .f32⟩ : BufTy).Contents (Elt F)),
    unary main_v7 main_v9 (broadcastInDim S8192x1024 ![0, 1] bcast_S1x1024_S8192x1024_0_1 : (⟨S1x1024, .f32⟩ : BufTy).Contents (Elt F) → (⟨S8192x1024, .f32⟩ : BufTy).Contents (Elt F)),
    binary main_v8 main_v9 main_v10 (addf : (⟨S8192x1024, .f32⟩ : BufTy).Contents (Elt F) → (⟨S8192x1024, .f32⟩ : BufTy).Contents (Elt F) → (⟨S8192x1024, .f32⟩ : BufTy).Contents (Elt F)),
    unary main_arg1 main_v11 ((transpose S256x1024 [1, 0] · transposes_S1024x256_S256x1024_1_0) : (⟨S1024x256, .f32⟩ : BufTy).Contents (Elt F) → (⟨S256x1024, .f32⟩ : BufTy).Contents (Elt F)),
    binary main_v1 main_v11 main_v12 ((fun l r => Host.dotGeneral dot_S8192x256_S256x1024_S8192x1024_1_0_0_1_n_n none l r) : (⟨S8192x256, .f32⟩ : BufTy).Contents (Elt F) → (⟨S256x1024, .f32⟩ : BufTy).Contents (Elt F) → (⟨S8192x1024, .f32⟩ : BufTy).Contents (Elt F)),
    nullary main_cst_1 (constant S_ .f32 0x40000000#32),
    unary main_cst_1 main_v13 (broadcastInDim S8192x1024 ![] bcast_S_S8192x1024 : (⟨S_, .f32⟩ : BufTy).Contents (Elt F) → (⟨S8192x1024, .f32⟩ : BufTy).Contents (Elt F)),
    binary main_v13 main_v12 main_v14 (mulf : (⟨S8192x1024, .f32⟩ : BufTy).Contents (Elt F) → (⟨S8192x1024, .f32⟩ : BufTy).Contents (Elt F) → (⟨S8192x1024, .f32⟩ : BufTy).Contents (Elt F)),
    binary main_v10 main_v14 main_v15 (subf : (⟨S8192x1024, .f32⟩ : BufTy).Contents (Elt F) → (⟨S8192x1024, .f32⟩ : BufTy).Contents (Elt F) → (⟨S8192x1024, .f32⟩ : BufTy).Contents (Elt F)),
    nullary main_call0_v0 (iotaInDim S8192x1024 32 1),
    nullary main_call0_cst (constant S_ .f32 0x7F800000#32),
    nullary main_call0_c (constantI S_ 32 0#32),
    quaternary main_v15 main_call0_v0 main_call0_cst main_call0_c main_call0_v1_0 minF,
    quaternary main_v15 main_call0_v0 main_call0_cst main_call0_c main_v16 argminF,
    unary main_v16 main_v17 (broadcastInDim S8192x1 ![0] bcast_S8192_S8192x1_0 : (⟨S8192, .i32⟩ : BufTy).Contents (Elt F) → (⟨S8192x1, .i32⟩ : BufTy).Contents (Elt F)),
    nullary main_cst_2 (constant S_ .f32 0x00000000#32),
    unary main_cst_2 main_v18 (broadcastInDim S8192x1024 ![] bcast_S_S8192x1024 : (⟨S_, .f32⟩ : BufTy).Contents (Elt F) → (⟨S8192x1024, .f32⟩ : BufTy).Contents (Elt F)),
    nullary main_v19 (iotaInDim S8192 32 0),
    reshape main_v17 main_v20 (rfl : (.i32 : EltTy) = .i32) shapeCasts_S8192x1_S8192,
    nullary main_c (constantI S_ 32 0#32),
    unary main_c main_v21 (broadcastInDim S8192 ![] bcast_S_S8192 : (⟨S_, .i32⟩ : BufTy).Contents (Elt F) → (⟨S8192, .i32⟩ : BufTy).Contents (Elt F)),
    binary main_v19 main_v21 main_v22 (cmpi .slt : (⟨S8192, .i32⟩ : BufTy).Contents (Elt F) → (⟨S8192, .i32⟩ : BufTy).Contents (Elt F) → (⟨S8192, .i1⟩ : BufTy).Contents (Elt F)),
    nullary main_c_3 (constantI S_ 32 8192#32),
    unary main_c_3 main_v23 (broadcastInDim S8192 ![] bcast_S_S8192 : (⟨S_, .i32⟩ : BufTy).Contents (Elt F) → (⟨S8192, .i32⟩ : BufTy).Contents (Elt F)),
    binary main_v19 main_v23 main_v24 (addi : (⟨S8192, .i32⟩ : BufTy).Contents (Elt F) → (⟨S8192, .i32⟩ : BufTy).Contents (Elt F) → (⟨S8192, .i32⟩ : BufTy).Contents (Elt F)),
    ternary main_v22 main_v24 main_v19 main_v25 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_4 (constantI S_ 32 0#32),
    unary main_c_4 main_v26 (broadcastInDim S8192 ![] bcast_S_S8192 : (⟨S_, .i32⟩ : BufTy).Contents (Elt F) → (⟨S8192, .i32⟩ : BufTy).Contents (Elt F)),
    binary main_v20 main_v26 main_v27 (cmpi .slt : (⟨S8192, .i32⟩ : BufTy).Contents (Elt F) → (⟨S8192, .i32⟩ : BufTy).Contents (Elt F) → (⟨S8192, .i1⟩ : BufTy).Contents (Elt F)),
    nullary main_c_5 (constantI S_ 32 1024#32),
    unary main_c_5 main_v28 (broadcastInDim S8192 ![] bcast_S_S8192 : (⟨S_, .i32⟩ : BufTy).Contents (Elt F) → (⟨S8192, .i32⟩ : BufTy).Contents (Elt F)),
    binary main_v20 main_v28 main_v29 (addi : (⟨S8192, .i32⟩ : BufTy).Contents (Elt F) → (⟨S8192, .i32⟩ : BufTy).Contents (Elt F) → (⟨S8192, .i32⟩ : BufTy).Contents (Elt F)),
    ternary main_v27 main_v29 main_v20 main_v30 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v25 main_v31 (broadcastInDim S8192x1 ![0] bcast_S8192_S8192x1_0 : (⟨S8192, .i32⟩ : BufTy).Contents (Elt F) → (⟨S8192x1, .i32⟩ : BufTy).Contents (Elt F)),
    unary main_v30 main_v32 (broadcastInDim S8192x1 ![0] bcast_S8192_S8192x1_0 : (⟨S8192, .i32⟩ : BufTy).Contents (Elt F) → (⟨S8192x1, .i32⟩ : BufTy).Contents (Elt F)),
    binary main_v31 main_v32 main_v33 (pairF),
    nullary main_cst_6 (constant S_ .f32 0x3F800000#32),
    unary main_cst_6 main_v34 (broadcastInDim S8192 ![] bcast_S_S8192 : (⟨S_, .f32⟩ : BufTy).Contents (Elt F) → (⟨S8192, .f32⟩ : BufTy).Contents (Elt F)),
    ternary main_v18 main_v33 main_v34 main_v35 ((fun x i u => Host.scatter scatter_S8192x1024_S8192x2_S8192_n_01_01_1 (fun _ b => b) x i u) : (⟨S8192x1024, .f32⟩ : BufTy).Contents (Elt F) → (⟨S8192x2, .i32⟩ : BufTy).Contents (Elt F) → (⟨S8192, .f32⟩ : BufTy).Contents (Elt F) → (⟨S8192x1024, .f32⟩ : BufTy).Contents (Elt F)),
    binary main_v35 main_arg1 main_v36 ((fun l r => Host.dotGeneral dot_S8192x1024_S1024x256_S8192x256_1_0_0_1_n_n none l r) : (⟨S8192x1024, .f32⟩ : BufTy).Contents (Elt F) → (⟨S1024x256, .f32⟩ : BufTy).Contents (Elt F) → (⟨S8192x256, .f32⟩ : BufTy).Contents (Elt F)),
    reshape main_v36 main_v37 (rfl : (.f32 : EltTy) = .f32) shapeCasts_S8192x256_S8x32x32x256,
    unary main_v37 main_v38 ((transpose S8x256x32x32 [0, 3, 1, 2] · transposes_S8x32x32x256_S8x256x32x32_0_3_1_2) : (⟨S8x32x32x256, .f32⟩ : BufTy).Contents (Elt F) → (⟨S8x256x32x32, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., binary_bufs_sub .., nullary_bufs_sub .., binary_bufs_sub .., unary_bufs_sub .., binary_bufs_sub .., nullary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., nullary_bufs_sub .., nullary_bufs_sub .., quaternary_bufs_sub .., quaternary_bufs_sub .., unary_bufs_sub .., nullary_bufs_sub .., unary_bufs_sub .., nullary_bufs_sub .., reshape_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub .., binary_bufs_sub .., reshape_bufs_sub .., unary_bufs_sub ..⟩

/-! ## The stages -/

/-- The rows: z with its channels last, one row of 256 values per pixel. -/
def rows (x : FVec F S8x256x32x32 .f32) : FVec F S8192x256 .f32 :=
  shapeCast S8192x256 (transpose S8x32x32x256 [0, 2, 3, 1] x transposes_S8x256x32x32_S8x32x32x256_0_2_3_1) shapeCasts_S8x32x32x256_S8192x256

/-- The squared distances, as the reference spells them: |z|² + |e|² − 2·(z·e). -/
def dist (x : FVec F S8x256x32x32 .f32) (e : FVec F S1024x256 .f32) : FVec F S8192x1024 .f32 :=
  subf
    (addf
      (broadcastInDim S8192x1024 ![0, 1] bcast_S8192x1_S8192x1024_0_1 (broadcastInDim S8192x1 ![0] bcast_S8192_S8192x1_0
        (Host.reduceAdd (mulf (rows x) (rows x)) (constant S_ .f32 0x00000000#32) reducesTo_S8192x256_S8192_d1 h_S_)))
      (broadcastInDim S8192x1024 ![0, 1] bcast_S1x1024_S8192x1024_0_1 (broadcastInDim S1x1024 ![1] bcast_S1024_S1x1024_1
        (Host.reduceAdd (mulf e e) (constant S_ .f32 0x00000000#32) reducesTo_S1024x256_S1024_d1 h_S_))))
    (mulf (broadcastInDim S8192x1024 ![] bcast_S_S8192x1024 (constant S_ .f32 0x40000000#32))
      (Host.dotGeneral dot_S8192x256_S256x1024_S8192x1024_1_0_0_1_n_n none (rows x)
        (transpose S256x1024 [1, 0] e transposes_S1024x256_S256x1024_1_0)))

/-- The index of each row's least distance. -/
def argmin (x : FVec F S8x256x32x32 .f32) (e : FVec F S1024x256 .f32) : IVec S8192 32 :=
  argminF (F := F) (dist x e) (iotaInDim S8192x1024 32 1) (constant S_ .f32 0x7F800000#32) (constantI S_ 32 0#32)

/-- The indices as a column: the reference's third result. -/
def column (x : FVec F S8x256x32x32 .f32) (e : FVec F S1024x256 .f32) : IVec S8192x1 32 :=
  broadcastInDim S8192x1 ![0] bcast_S8192_S8192x1_0 (argmin x e)

/-- The (row, code) pairs, each index taken round the end of its axis where it is negative. -/
def pairs (i : IVec S8192x1 32) : IVec S8192x2 32 :=
  pairF (F := F)
    (broadcastInDim S8192x1 ![0] bcast_S8192_S8192x1_0
      (select (cmpi .slt (iotaInDim S8192 32 0) (broadcastInDim S8192 ![] bcast_S_S8192 (constantI S_ 32 0#32)))
        (addi (iotaInDim S8192 32 0) (broadcastInDim S8192 ![] bcast_S_S8192 (constantI S_ 32 8192#32))) (iotaInDim S8192 32 0)))
    (broadcastInDim S8192x1 ![0] bcast_S8192_S8192x1_0
      (select (cmpi .slt (shapeCast S8192 i shapeCasts_S8192x1_S8192) (broadcastInDim S8192 ![] bcast_S_S8192 (constantI S_ 32 0#32)))
        (addi (shapeCast S8192 i shapeCasts_S8192x1_S8192) (broadcastInDim S8192 ![] bcast_S_S8192 (constantI S_ 32 1024#32)))
        (shapeCast S8192 i shapeCasts_S8192x1_S8192)))

/-- The one-hot rows: ones set at the pairs in an array of zeros. The reference's second result. -/
def enc (x : FVec F S8x256x32x32 .f32) (e : FVec F S1024x256 .f32) : FVec F S8192x1024 .f32 :=
  Host.scatter scatter_S8192x1024_S8192x2_S8192_n_01_01_1 (fun _ b => b)
    (broadcastInDim S8192x1024 ![] bcast_S_S8192x1024 (constant S_ .f32 0x00000000#32)) (pairs (F := F) (column x e))
    (broadcastInDim S8192 ![] bcast_S_S8192 (constant S_ .f32 0x3F800000#32))

/-- The quantized array: the one-hot rows times the codebook, its channels moved back. The reference's first result. -/
def zq (x : FVec F S8x256x32x32 .f32) (e : FVec F S1024x256 .f32) : FVec F S8x256x32x32 .f32 :=
  transpose S8x256x32x32 [0, 3, 1, 2]
    (shapeCast S8x32x32x256 (Host.dotGeneral dot_S8192x1024_S1024x256_S8192x256_1_0_0_1_n_n none (enc x e) e) shapeCasts_S8192x256_S8x32x32x256)
    transposes_S8x32x32x256_S8x256x32x32_0_3_1_2

set_option maxRecDepth 8192 in
set_option maxHeartbeats 2000000 in
/-- From any memory with zero counters every weakly fair execution of the reference terminates, its results at the stages
    above, its arguments unchanged, its counters at zero (it has none). -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v38) = zq (F := F) (m ((c.tc : Thread nD τ).loc main_arg0)) (m ((c.tc : Thread nD τ).loc main_arg1))
      ∧ r.2.mem ((c.tc : Thread nD τ).loc main_v35) = enc (F := F) (m ((c.tc : Thread nD τ).loc main_arg0)) (m ((c.tc : Thread nD τ).loc main_arg1))
      ∧ r.2.mem ((c.tc : Thread nD τ).loc main_v17) = column (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c main_v38).trans (by after_results_simp <;> rfl),
      (h c main_v35).trans (by after_results_simp <;> rfl),
      (h c main_v17).trans (by after_results_simp <;> rfl),
      (h c main_arg0).trans (by after_results_simp <;> rfl),
      (h c main_arg1).trans (by after_results_simp <;> rfl)⟩, sem_eq_zero_of_no_sems rfl r.2⟩)
    (run_seq scopedRefs_eq scopedSems_eq defs main (fun _ => ops) main_eq (fun _ => ops_sub) m ρ)

end Cert.ReferenceIdeal.Hand

end
-- ==== Proof.RefValue.lean ====
/-
  The reference's three results read at an index over the extended reals: the one-hot rows, the code indices and the
  quantized array of Spec.lean.
-/
module

public import proofs.«01_k».proof.Proof.RefRun
public import proofs.«01_k».proof.Proof.Spec
public import Idealize.ShloMosaic.Lib.Routing.OpsPair
public import Idealize.ShloMosaic.Lib.Routing.OpsSet

@[expose] public section

noncomputable section

namespace Cert.ReferenceIdeal.Hand

open Cert.ReferenceIdeal Cert.ReferenceIdeal.Gen Cert.Hand Idealize.ShloMosaic Idealize.ShloMosaic.TcCoe

variable (x : FVec Ideal S8x256x32x32 .f32) (e : FVec Ideal S1024x256 .f32)

/-- A row of the flattened array is a pixel's channels. -/
theorem rows_apply (r : Fin 8192) (c : Fin 256) : rows x (ix2 r c) = pixel x r c := by
  pointwise [rows]
  rfl

/-- The distances. -/
theorem dist_apply (r : Fin 8192) (k : Fin 1024) : dist x e (ix2 r k) = sqDist (pixel x r) e (lengths e) k := by
  pointwise [dist, rows_apply]
  unfold sqDist lengths
  simp only [mul_comm (pixel x r _) (e _)]

/-- The body of the reference's `argmin` keeps one of its two pairs, one not after the other. -/
theorem keeps_reducer : Keeps (reducer_argmin_f32_i32 (F := Ideal)) := by
  rintro ⟨a, i⟩ ⟨b, j⟩
  have hne : FloatOps.cmpf (F := Ideal) (φ := .f32) .une a a = 0#1 := by simp [Ideal.cmpf_def, Ideal.cmp]
  have hlt : FloatOps.cmpf (F := Ideal) (φ := .f32) .olt a b = BitVec.ofBool (decide (a < b)) := rfl
  have heq : FloatOps.cmpf (F := Ideal) (φ := .f32) .oeq a b = BitVec.ofBool (decide (a = b)) := by
    simp [Ideal.cmpf_def, Ideal.cmp]
  have hs : IntOp.cmpi .slt i j = BitVec.ofBool (decide (i.toInt < j.toInt)) := WordCmp.cmpi_slt_eq i j
  simp only [reducer_argmin_f32_i32, hne, hlt, heq, hs]
  rcases lt_trichotomy a b with h | h | h
  · refine Or.inl ⟨?_, Or.inl h⟩
    rw [decide_eq_true h]
    generalize decide (a = b) = u
    generalize decide (i.toInt < j.toInt) = v
    cases u <;> cases v <;> rfl
  · subst h
    by_cases hi : i.toInt < j.toInt
    · refine Or.inl ⟨?_, Or.inr ⟨rfl, hi.le⟩⟩
      rw [decide_eq_true hi, decide_eq_true rfl, decide_eq_false (lt_irrefl a)]
      rfl
    · refine Or.inr ⟨?_, Or.inr ⟨rfl, not_lt.1 hi⟩⟩
      rw [decide_eq_false hi, decide_eq_true rfl, decide_eq_false (lt_irrefl a)]
      rfl
  · refine Or.inr ⟨?_, Or.inl h⟩
    rw [decide_eq_false h.not_gt, decide_eq_false h.ne']
    generalize decide (i.toInt < j.toInt) = v
    cases v <;> rfl

/-- The pairs a row's reduction folds over: each distance of the row with its position. -/
theorem mem_fiber (d : FVec Ideal S8192x1024 .f32) (r : Fin 8192) (p : EReal × BitVec 32) :
    p ∈ Host.argReduceFiber d (iotaInDim S8192x1024 32 1) reducesTo_S8192x1024_S8192_d1 (ix1 r)
      ↔ ∃ k : Fin 1024, p = (d (ix2 r k), BitVec.ofNat 32 k.val) := by
  unfold Host.argReduceFiber
  rw [List.mem_map]
  constructor
  · rintro ⟨n, hn, rfl⟩
    obtain ⟨k, hk⟩ := (Shape.ReducesTo.fiber_r2_a1 reducesTo_S8192x1024_S8192_d1 (ix1 r) _).1
      (of_decide_eq_true (List.mem_filter.1 hn).2)
    refine ⟨k, ?_⟩
    rw [← hk]
    rfl
  · rintro ⟨k, rfl⟩
    refine ⟨S8192x1024.rowMajor (ix2 r k), List.mem_filter.2 ⟨List.mem_finRange _, decide_eq_true ?_⟩, ?_⟩
    · rw [Equiv.symm_apply_apply]
      exact (Shape.ReducesTo.fiber_r2_a1 reducesTo_S8192x1024_S8192_d1 (ix1 r) _).2 ⟨k, rfl⟩
    · rw [Equiv.symm_apply_apply]
      rfl

/-- The second component of an `argmin` reduction whose fiber is 1024 values with their positions is the position of the
    least. Stated for any shapes, so that nothing here is a list of a known length. -/
theorem argReduce_eq_least {s t u : Shape} {axes : List (Fin s.rank)} {f : EReal × BitVec 32 → EReal × BitVec 32 → EReal × BitVec 32} (hf : Keeps f)
    (d : FVec Ideal s .f32) (y : IVec s 32) (v : FVec Ideal u .f32) (w : IVec u 32) (h : s.ReducesTo axes t) (hu : 0 < u.numel) (j : t.Idx)
    (hv : v (Shape.Idx.first hu) = (⊤ : EReal)) (hw : w (Shape.Idx.first hu) = 0#32) (g : Fin 1024 → EReal)
    (hl : ∀ p : EReal × BitVec 32, p ∈ Host.argReduceFiber d y h j ↔ ∃ k : Fin 1024, p = (g k, BitVec.ofNat 32 k.val)) :
    (Host.argReduce (F := Ideal) (φ := .f32) f d y v w h hu j).2 = BitVec.ofNat 32 (least g).val := by
  rw [Ideal.argReduce_eq_reduce2 (φ := .f32) f d y v w h hu, Host.reduce2_eq_foldl_fiber, hv, hw]
  exact argmin_fold_eq_least hf g _ hl

/-- The reference's reduction, by its definition. -/
theorem argPair_eq (d : FVec Ideal S8192x1024 .f32) (y : IVec S8192x1024 32) (u : FVec Ideal S_ .f32) (v : IVec S_ 32) :
    argPair (F := Ideal) d y u v
      = Host.argReduce (F := Ideal) (φ := .f32) reducer_argmin_f32_i32 d y u v reducesTo_S8192x1024_S8192_d1 h_S_ := by
  delta argPair
  exact Eq.refl _

/-- The position the reference's reduction returns is that of the row's least value. -/
theorem argPair_eq_least (d : FVec Ideal S8192x1024 .f32) (r : Fin 8192) (g : Fin 1024 → EReal) (hg : ∀ k, d (ix2 r k) = g k) :
    (argPair (F := Ideal) d (iotaInDim S8192x1024 32 1) (constant S_ .f32 0x7F800000#32) (constantI S_ 32 0#32) (ix1 r)).2
      = BitVec.ofNat 32 (least g).val :=
  (congrArg Prod.snd (congrFun (argPair_eq d (iotaInDim S8192x1024 32 1) (constant S_ .f32 0x7F800000#32) (constantI S_ 32 0#32)) (ix1 r))).trans
    (argReduce_eq_least keeps_reducer d (iotaInDim S8192x1024 32 1) (constant S_ .f32 0x7F800000#32) (constantI S_ 32 0#32)
      reducesTo_S8192x1024_S8192_d1 h_S_ (ix1 r) ofBits_inf rfl g fun p => (mem_fiber d r p).trans (by simp only [hg]))

/-- A function that is the second component of another, read at an element. -/
theorem snd_at {α β γ : Type} {f : α → γ} {g : α → β × γ} (h : f = fun j => (g j).2) (a : α) {c : γ} (hc : (g a).2 = c) : f a = c := by
  rw [h]; exact hc

theorem argmin_eq : argmin x e = fun j =>
    (argPair (F := Ideal) (dist x e) (iotaInDim S8192x1024 32 1) (constant S_ .f32 0x7F800000#32) (constantI S_ 32 0#32) j).2 := by
  delta argmin argminF
  exact Eq.refl _

/-- The index of a row's least distance is the pixel's code. -/
theorem argmin_apply (r : Fin 8192) : argmin x e (ix1 r) = BitVec.ofNat 32 (code x e r).val :=
  snd_at (argmin_eq x e) (ix1 r) (argPair_eq_least (dist x e) r (sqDist (pixel x r) e (lengths e)) fun k => dist_apply x e r k)

/-- A column of words at a row. -/
theorem as_column_apply (i : IVec S8192 32) (r : Fin 8192) : broadcastInDim S8192x1 ![0] bcast_S8192_S8192x1_0 i (ix2 r 0) = i (ix1 r) := by
  pointwise

/-- The third result. -/
theorem column_apply (r : Fin 8192) : column x e (ix2 r 0) = BitVec.ofNat 32 (code x e r).val := by
  unfold column
  rw [as_column_apply, argmin_apply]

/-- The row of a one-hot pair. -/
theorem pairs_row (i : IVec S8192x1 32) (r : Fin 8192) : pairs (F := Ideal) i (ix2 r 0) = BitVec.ofNat 32 r.val := by
  have h : Scalar.select (IntOp.cmpi .slt (BitVec.ofNat 32 r.val) 0#32) (IntOp.addi (BitVec.ofNat 32 r.val) 8192#32) (BitVec.ofNat 32 r.val)
      = BitVec.ofNat 32 r.val :=
    Routing.wrap_of_lt _ _ (by rw [WordCmp.toNat_ofNat_of_lt (by omega)]; omega)
  pointwise [pairs, pairF]
  exact h

/-- The code of a one-hot pair. -/
theorem pairs_code (r : Fin 8192) : pairs (F := Ideal) (column x e) (ix2 r 1) = BitVec.ofNat 32 (code x e r).val := by
  pointwise [pairs, pairF, column_apply]
  exact Routing.wrap_of_lt _ _ (by rw [WordCmp.toNat_ofNat_of_lt (by omega)]; omega)

/-- Update `q` of the one-hot scatter lands at `(r, k)` exactly when its two words, read signed, are `r` and `k`. -/
theorem lands (idx : IVec S8192x2 32) (q r : Fin 8192) (k : Fin 1024) :
    scatter_S8192x1024_S8192x2_S8192_n_01_01_1.resultIdx? (ix1 q) idx = some (ix2 r k)
      ↔ (idx (ix2 q 0)).toInt = r.val ∧ (idx (ix2 q 1)).toInt = k.val := by
  have hwin : ∀ a : Fin 2, scatter_S8192x1024_S8192x2_S8192_n_01_01_1.window (ix1 q) a = 0 := fun a => by fin_cases a <;> rfl
  have hsi : ∀ (a : Fin 2) (h : a.val < 2), scatter_S8192x1024_S8192x2_S8192_n_01_01_1.siIdx (ix1 q) ⟨a.val, h⟩ = ix2 q a := fun a h => by
    funext b
    apply Fin.ext
    fin_cases a <;> fin_cases b <;> rfl
  have hs0 : scatter_S8192x1024_S8192x2_S8192_n_01_01_1.start (ix1 q) idx 0 = (idx (ix2 q 0)).toInt :=
    congrArg (fun i => (idx i).toInt) (hsi 0 (by decide))
  have hs1 : scatter_S8192x1024_S8192x2_S8192_n_01_01_1.start (ix1 q) idx 1 = (idx (ix2 q 1)).toInt :=
    congrArg (fun i => (idx i).toInt) (hsi 1 (by decide))
  rw [ix2_eq_valueIdx r k, Routing.resultIdx?_ix2 (R := 8192) (C := 1024), hs0, hs1, hwin, hwin]
  omega

/-- The second result. -/
theorem enc_apply (r : Fin 8192) (k : Fin 1024) : enc x e (ix2 r k) = hot x e r k := by
  unfold enc
  have hl : ∀ q : Fin 8192, scatter_S8192x1024_S8192x2_S8192_n_01_01_1.resultIdx? (ix1 q) (pairs (F := Ideal) (column x e)) = some (ix2 r k)
      ↔ q = r ∧ code x e q = k := fun q => by
    rw [lands, pairs_row, pairs_code, WordCmp.toInt_ofNat_of_lt (by omega), WordCmp.toInt_ofNat_of_lt (by omega)]
    exact ⟨fun h => ⟨Fin.ext (by omega), Fin.ext (by omega)⟩, fun h => by rw [h.1, ← h.2, h.1]; exact ⟨rfl, rfl⟩⟩
  unfold hot hotAt
  change _ = if k = code x e r then 1 else 0
  by_cases h : k = code x e r
  · rw [if_pos h]
    refine Routing.scatter_set_hit _ _ _ _ _ _ (fun q _ => ?_) (ix1 r) ((hl r).2 ⟨rfl, h.symm⟩)
    exact Ideal.ofBits_one_f32
  · rw [if_neg h, Routing.scatter_set_miss]
    · exact Ideal.ofBits_zero_f32
    · intro q hq
      rw [show q = ix1 (q 0) from funext fun a => by fin_cases a; rfl] at hq
      obtain ⟨h1, h2⟩ := (hl _).1 hq
      exact h (by rw [← h2, h1])

/-- The first result. -/
theorem zq_apply (b : Fin 8) (c : Fin 256) (h w : Fin 32) :
    zq x e (ix4 b c h w) = quant x e ⟨b.val * 1024 + h.val * 32 + w.val, by omega⟩ c := by
  pointwise [zq, enc_apply]
  rfl

end Cert.ReferenceIdeal.Hand
-- ==== Proof.OnehotRef.lean ====
/-
  The plain one-hot function: what its straight line of host operations leaves, and that array read at an index.
-/
module

public import proofs.«01_k».proof.Proof.Gen.OnehotReferenceIdeal
public import proofs.«01_k».proof.Proof.Spec
public import Idealize.ShloMosaic.Lib.StableHlo.Run
public import Idealize.ShloMosaic.Lib.Quiescent
public import Idealize.ShloMosaic.Lib.Routing.OpsPair
public import Idealize.ShloMosaic.Lib.Routing.OpsSet

@[expose] public section

noncomputable section

namespace Cert.OnehotReferenceIdeal.Hand

open Cert.OnehotReferenceIdeal Cert.OnehotReferenceIdeal.Gen Cert.Hand Idealize.ShloMosaic Idealize.ShloMosaic.TcCoe Idealize.SL.Sem Idealize.ShloMosaic.StableHlo

variable {F : FTy → Type} [FloatOps F]

/-- Two columns of words side by side: the (row, code) pairs the scatter reads. -/
def pairF (a b : (⟨S8192x1, .i32⟩ : BufTy).Contents (Elt F)) : (⟨S8192x2, .i32⟩ : BufTy).Contents (Elt F) :=
  concatenate S8192x2 1 [⟨S8192x1, a⟩, ⟨S8192x1, b⟩] concatenates_S8192x1_S8192x1_S8192x2_d1

set_option maxRecDepth 8192 in
/-- The operations of the plain function, in order. -/
abbrev ops : List (HloOp τ sig (Elt F)) :=
  [ nullary main_cst (constant S_ .f32 0x00000000#32),
    unary main_cst main_v0 (broadcastInDim S8192x1024 ![] bcast_S_S8192x1024 : (⟨S_, .f32⟩ : BufTy).Contents (Elt F) → (⟨S8192x1024, .f32⟩ : BufTy).Contents (Elt F)),
    nullary main_v1 (iotaInDim S8192 32 0),
    nullary main_c (constantI S_ 32 0#32),
    unary main_c main_v2 (broadcastInDim S8192 ![] bcast_S_S8192 : (⟨S_, .i32⟩ : BufTy).Contents (Elt F) → (⟨S8192, .i32⟩ : BufTy).Contents (Elt F)),
    binary main_v1 main_v2 main_v3 (cmpi .slt : (⟨S8192, .i32⟩ : BufTy).Contents (Elt F) → (⟨S8192, .i32⟩ : BufTy).Contents (Elt F) → (⟨S8192, .i1⟩ : BufTy).Contents (Elt F)),
    nullary main_c_0 (constantI S_ 32 8192#32),
    unary main_c_0 main_v4 (broadcastInDim S8192 ![] bcast_S_S8192 : (⟨S_, .i32⟩ : BufTy).Contents (Elt F) → (⟨S8192, .i32⟩ : BufTy).Contents (Elt F)),
    binary main_v1 main_v4 main_v5 (addi : (⟨S8192, .i32⟩ : BufTy).Contents (Elt F) → (⟨S8192, .i32⟩ : BufTy).Contents (Elt F) → (⟨S8192, .i32⟩ : BufTy).Contents (Elt F)),
    ternary main_v3 main_v5 main_v1 main_v6 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    nullary main_c_1 (constantI S_ 32 0#32),
    unary main_c_1 main_v7 (broadcastInDim S8192 ![] bcast_S_S8192 : (⟨S_, .i32⟩ : BufTy).Contents (Elt F) → (⟨S8192, .i32⟩ : BufTy).Contents (Elt F)),
    binary main_arg0 main_v7 main_v8 (cmpi .slt : (⟨S8192, .i32⟩ : BufTy).Contents (Elt F) → (⟨S8192, .i32⟩ : BufTy).Contents (Elt F) → (⟨S8192, .i1⟩ : BufTy).Contents (Elt F)),
    nullary main_c_2 (constantI S_ 32 1024#32),
    unary main_c_2 main_v9 (broadcastInDim S8192 ![] bcast_S_S8192 : (⟨S_, .i32⟩ : BufTy).Contents (Elt F) → (⟨S8192, .i32⟩ : BufTy).Contents (Elt F)),
    binary main_arg0 main_v9 main_v10 (addi : (⟨S8192, .i32⟩ : BufTy).Contents (Elt F) → (⟨S8192, .i32⟩ : BufTy).Contents (Elt F) → (⟨S8192, .i32⟩ : BufTy).Contents (Elt F)),
    ternary main_v8 main_v10 main_arg0 main_v11 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v6 main_v12 (broadcastInDim S8192x1 ![0] bcast_S8192_S8192x1_0 : (⟨S8192, .i32⟩ : BufTy).Contents (Elt F) → (⟨S8192x1, .i32⟩ : BufTy).Contents (Elt F)),
    unary main_v11 main_v13 (broadcastInDim S8192x1 ![0] bcast_S8192_S8192x1_0 : (⟨S8192, .i32⟩ : BufTy).Contents (Elt F) → (⟨S8192x1, .i32⟩ : BufTy).Contents (Elt F)),
    binary main_v12 main_v13 main_v14 pairF,
    nullary main_cst_3 (constant S_ .f32 0x3F800000#32),
    unary main_cst_3 main_v15 (broadcastInDim S8192 ![] bcast_S_S8192 : (⟨S_, .f32⟩ : BufTy).Contents (Elt F) → (⟨S8192, .f32⟩ : BufTy).Contents (Elt F)),
    ternary main_v0 main_v14 main_v15 main_v16 ((fun x i u => Host.scatter scatter_S8192x1024_S8192x2_S8192_n_01_01_1 (fun _ b => b) x i u) : (⟨S8192x1024, .f32⟩ : BufTy).Contents (Elt F) → (⟨S8192x2, .i32⟩ : BufTy).Contents (Elt F) → (⟨S8192, .f32⟩ : BufTy).Contents (Elt F) → (⟨S8192x1024, .f32⟩ : BufTy).Contents (Elt F)) ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., nullary_bufs_sub .., unary_bufs_sub .., ternary_bufs_sub ..⟩

/-- The (row, code) pairs, each index taken round the end of its axis where it is negative. -/
def pairs (i : IVec S8192 32) : IVec S8192x2 32 :=
  pairF (F := F)
    (broadcastInDim S8192x1 ![0] bcast_S8192_S8192x1_0
      (select (cmpi .slt (iotaInDim S8192 32 0) (broadcastInDim S8192 ![] bcast_S_S8192 (constantI S_ 32 0#32)))
        (addi (iotaInDim S8192 32 0) (broadcastInDim S8192 ![] bcast_S_S8192 (constantI S_ 32 8192#32))) (iotaInDim S8192 32 0)))
    (broadcastInDim S8192x1 ![0] bcast_S8192_S8192x1_0
      (select (cmpi .slt i (broadcastInDim S8192 ![] bcast_S_S8192 (constantI S_ 32 0#32)))
        (addi i (broadcastInDim S8192 ![] bcast_S_S8192 (constantI S_ 32 1024#32))) i))

/-- The one-hot rows: ones set at the pairs in an array of zeros. -/
def enc (i : IVec S8192 32) : FVec F S8192x1024 .f32 :=
  Host.scatter scatter_S8192x1024_S8192x2_S8192_n_01_01_1 (fun _ b => b)
    (broadcastInDim S8192x1024 ![] bcast_S_S8192x1024 (constant S_ .f32 0x00000000#32)) (pairs (F := F) i)
    (broadcastInDim S8192 ![] bcast_S_S8192 (constant S_ .f32 0x3F800000#32))

set_option maxRecDepth 8192 in
set_option maxHeartbeats 1000000 in
/-- Every weakly fair execution of the plain function terminates with its result `enc` of the indices, its argument
    unchanged and its counters at zero (it has none). -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v16) = enc (F := F) (m ((c.tc : Thread nD τ).loc main_arg0))
      ∧ r.2.mem ((c.tc : Thread nD τ).loc main_arg0) = m ((c.tc : Thread nD τ).loc main_arg0))
      ∧ r.2.sem = fun _ => 0 :=
  (θ_run defs _ _).mono (fun r h => ⟨fun c => ⟨(h c main_v16).trans (by after_results_simp <;> rfl),
      (h c main_arg0).trans (by after_results_simp <;> rfl)⟩, sem_eq_zero_of_no_sems rfl r.2⟩)
    (run_seq scopedRefs_eq scopedSems_eq defs main (fun _ => ops) main_eq (fun _ => ops_sub) m ρ)

/-- The row of a pair. -/
theorem pairs_row (i : IVec S8192 32) (r : Fin 8192) : pairs (F := Ideal) i (ix2 r 0) = BitVec.ofNat 32 r.val := by
  have h : Scalar.select (IntOp.cmpi .slt (BitVec.ofNat 32 r.val) 0#32) (IntOp.addi (BitVec.ofNat 32 r.val) 8192#32) (BitVec.ofNat 32 r.val)
      = BitVec.ofNat 32 r.val :=
    Routing.wrap_of_lt _ _ (by rw [WordCmp.toNat_ofNat_of_lt (by omega)]; omega)
  pointwise [pairs, pairF]
  exact h

/-- The code of a pair, the index itself when it is in range. -/
theorem pairs_code (i : IVec S8192 32) (r : Fin 8192) (h : (i (ix1 r)).toNat < 1024) : pairs (F := Ideal) i (ix2 r 1) = i (ix1 r) := by
  pointwise [pairs, pairF]
  exact Routing.wrap_of_lt _ _ (by omega)

/-- Update `q` of the scatter lands at `(r, k)` exactly when its two words, read signed, are `r` and `k`. -/
theorem lands (idx : IVec S8192x2 32) (q r : Fin 8192) (k : Fin 1024) :
    scatter_S8192x1024_S8192x2_S8192_n_01_01_1.resultIdx? (ix1 q) idx = some (ix2 r k)
      ↔ (idx (ix2 q 0)).toInt = r.val ∧ (idx (ix2 q 1)).toInt = k.val := by
  have hwin : ∀ a : Fin 2, scatter_S8192x1024_S8192x2_S8192_n_01_01_1.window (ix1 q) a = 0 := fun a => by fin_cases a <;> rfl
  have hsi : ∀ (a : Fin 2) (h : a.val < 2), scatter_S8192x1024_S8192x2_S8192_n_01_01_1.siIdx (ix1 q) ⟨a.val, h⟩ = ix2 q a := fun a h => by
    funext b
    apply Fin.ext
    fin_cases a <;> fin_cases b <;> rfl
  have hs0 : scatter_S8192x1024_S8192x2_S8192_n_01_01_1.start (ix1 q) idx 0 = (idx (ix2 q 0)).toInt :=
    congrArg (fun i => (idx i).toInt) (hsi 0 (by decide))
  have hs1 : scatter_S8192x1024_S8192x2_S8192_n_01_01_1.start (ix1 q) idx 1 = (idx (ix2 q 1)).toInt :=
    congrArg (fun i => (idx i).toInt) (hsi 1 (by decide))
  rw [ix2_eq_valueIdx r k, Routing.resultIdx?_ix2 (R := 8192) (C := 1024), hs0, hs1, hwin, hwin]
  omega

/-- The one-hot rows at an index. -/
theorem enc_apply (i : IVec S8192 32) (hi : ∀ j, (i j).toNat < 1024) (r : Fin 8192) (k : Fin 1024) :
    enc (F := Ideal) i (ix2 r k) = if k.val = (i (ix1 r)).toNat then (1 : EReal) else 0 := by
  unfold enc
  have hl : ∀ q : Fin 8192, scatter_S8192x1024_S8192x2_S8192_n_01_01_1.resultIdx? (ix1 q) (pairs (F := Ideal) i) = some (ix2 r k)
      ↔ q = r ∧ (i (ix1 q)).toNat = k.val := fun q => by
    have hq := hi (ix1 q)
    rw [lands, pairs_row, pairs_code i q hq, WordCmp.toInt_ofNat_of_lt (by omega), BitVec.toInt_eq_toNat_of_lt (by omega)]
    exact ⟨fun h => ⟨Fin.ext (by omega), by omega⟩, fun h => ⟨by rw [h.1], by rw [h.2]⟩⟩
  by_cases h : k.val = (i (ix1 r)).toNat
  · rw [if_pos h]
    refine Routing.scatter_set_hit _ _ _ _ _ _ (fun q _ => ?_) (ix1 r) ((hl r).2 ⟨rfl, h.symm⟩)
    exact Ideal.ofBits_one_f32
  · rw [if_neg h, Routing.scatter_set_miss]
    · exact Ideal.ofBits_zero_f32
    · intro q hq
      rw [show q = ix1 (q 0) from funext fun a => by fin_cases a; rfl] at hq
      obtain ⟨h1, h2⟩ := (hl _).1 hq
      exact h (by rw [← h2, h1])

end Cert.OnehotReferenceIdeal.Hand

end
-- ==== Proof.OnehotSpec.lean ====
/-
  The SparseCore call's values as plain functions: the one-hot rows of 8192 codes, what one store of sixteen lanes does to
  a block of 32 rows, and what the precondition says of the codes.
-/
module

public import proofs.«01_k».proof.Proof.Gen.OnehotIdeal
public import proofs.«01_k».proof.Proof.Gen.OnehotIdeal.Skeleton
public import proofs.«01_k».proof.Proof.Gen.Pre_indices_in_range
public import proofs.«01_k».proof.Proof.Spec
public import Idealize.ShloMosaic.Lib.ReduceAll

@[expose] public section

noncomputable section

namespace Cert.OnehotIdeal.Hand

open Cert.OnehotIdeal Cert.OnehotIdeal.Gen Cert.Hand Idealize.ShloMosaic

variable {F : FTy → Type} [FloatOps F]

/-- The two values of a one-hot row. -/
abbrev one : Elt F .f32 := (Scalar.ofBits .f32 0x3F800000#32 : F .f32)
abbrev zero : Elt F .f32 := (Scalar.ofBits .f32 0x00000000#32 : F .f32)

/-- The code of row `n`. -/
def wd (idx : IVec S8192 32) (n : ℕ) : ℕ := if h : n < 8192 then (idx (ix1 ⟨n, h⟩)).toNat else 0

theorem wd_of_lt (idx : IVec S8192 32) {n : ℕ} (h : n < 8192) : wd idx n = (idx (ix1 ⟨n, h⟩)).toNat := dif_pos h

theorem wd_lt (idx : IVec S8192 32) (hi : ∀ j, (idx j).toNat < 1024) (n : ℕ) : wd idx n < 1024 := by
  unfold wd
  split
  · exact hi _
  · decide

/-- The one-hot rows of the codes. -/
def hot (idx : IVec S8192 32) (y : S8192x1024.Idx) : Elt F .f32 := if (y 1).val = wd idx (y 0).val then one else zero

/-- A block of 32 rows, the first of them row `base`: rows `lo ≤ · < hi` of the block are one-hot, the others zero. -/
def rows (w : ℕ → ℕ) (base lo hi : ℕ) (y : S32x1024.Idx) : Elt F .f32 :=
  if (lo ≤ (y 0).val ∧ (y 0).val < hi) ∧ (y 1).val = w (base + (y 0).val) then one else zero

/-- A fold of overwrites by one value. -/
theorem foldl_overwrite {ι β γ : Type} (c : γ) (H : ι → β → Prop) [∀ k j, Decidable (H k j)] (j : β) :
    ∀ (l : List ι) (f : β → γ) [Decidable (∃ k ∈ l, H k j)],
      l.foldl (fun g k => fun j => if H k j then c else g j) f j = if ∃ k ∈ l, H k j then c else f j
  | [], f, _ => by simp
  | a :: l, f, _ => by
    classical
    rw [List.foldl_cons, foldl_overwrite c H j l]
    by_cases h1 : ∃ k ∈ l, H k j
    · rw [if_pos h1, if_pos (h1.imp fun k hk => ⟨List.mem_cons_of_mem _ hk.1, hk.2⟩)]
    · rw [if_neg h1]
      by_cases h2 : H a j
      · rw [if_pos h2, if_pos ⟨a, List.mem_cons_self .., h2⟩]
      · rw [if_neg h2, if_neg]
        rintro ⟨k, hk, hkj⟩
        rcases List.mem_cons.mp hk with rfl | hk
        · exact h2 hkj
        · exact h1 ⟨k, hk, hkj⟩

/-- A store of one value at sixteen named elements. -/
theorem storeIdx_const (f : Vec F S32x1024 .f32) (r c : IVec S16 32) (z : Elt F .f32)
    (h : ∀ a x, ((![r, c] : Fin 2 → IVec S16 32) a x).toNat < S32x1024.size a) (j : S32x1024.Idx)
    [Decidable (∃ k : Fin 16, (j 0).val = (r (Shape.ofLane k)).toNat ∧ (j 1).val = (c (Shape.ofLane k)).toNat)] :
    storeIdx (F := F) f (![r, c] : Fin 2 → IVec S16 32) (fun _ => z) (fun _ => 1#1) false h j
      = if ∃ k : Fin 16, (j 0).val = (r (Shape.ofLane k)).toNat ∧ (j 1).val = (c (Shape.ofLane k)).toNat then z else f j := by
  classical
  have e := foldl_overwrite z (fun (k : Fin 16) (j : S32x1024.Idx) => ∀ a : Fin S32x1024.rank, (j a).val = ((![r, c] : Fin 2 → IVec S16 32) a (Shape.ofLane k)).toNat) j
    (List.finRange 16) f
  refine Eq.trans ?_ (e.trans ?_)
  · unfold storeIdx
    refine congrFun (congrArg (fun G => List.foldl G f (List.finRange 16)) ?_) j
    funext g k j'
    dsimp only
    rw [if_pos (show (1#1 : BitVec 1) = 1 from rfl), if_neg (show ¬ false = true by decide)]
    split_ifs with h1 h2 h2
    · rfl
    · exact absurd h1 h2
    · exact absurd h2 h1
    · rfl
  · refine if_congr ⟨fun ⟨k, _, hk⟩ => ⟨k, hk 0, hk 1⟩, fun ⟨k, h0, h1⟩ => ⟨k, List.mem_finRange k, fun a => ?_⟩⟩ rfl rfl
    match a with
    | 0 => exact h0
    | 1 => exact h1

/-- The rows sixteen lanes name. -/
theorem pay3_lane : ∀ (t : Fin k0_t2_loop.trips) (k : Fin 16), (k0_pay3 t (Shape.ofLane k)).toNat = 16 * t.val + k.val := by decide +kernel
theorem pay4_lane : ∀ (t : Fin k0_t3_loop.trips) (k : Fin 16), (k0_pay4 t (Shape.ofLane k)).toNat = 16 * t.val + k.val := by decide +kernel

theorem trips1 : k0_t1_loop.trips = 8 := by decide +kernel
theorem trips2 : k0_t2_loop.trips = 2 := by decide +kernel
theorem trips3 : k0_t3_loop.trips = 2 := by decide +kernel

/-- An index of sixteen lanes is a lane. -/
theorem eq_ofLane (x : S16.Idx) : ∃ k : Fin 16, x = Shape.ofLane k :=
  ⟨x 0, by funext a; match a with | 0 => rfl⟩

/-- Lanes that name rows of the block and codes name elements of the block. -/
theorem lanes_inb (w : ℕ → ℕ) (hw : ∀ n, w n < 1024) (t b : ℕ) (ht : t < 2) (r c : IVec S16 32)
    (hr : ∀ k : Fin 16, (r (Shape.ofLane k)).toNat = 16 * t + k.val) (hc : ∀ k : Fin 16, (c (Shape.ofLane k)).toNat = w (b + (16 * t + k.val))) :
    ∀ a x, ((![r, c] : Fin 2 → IVec S16 32) a x).toNat < S32x1024.size a := by
  intro a x
  obtain ⟨k, rfl⟩ := eq_ofLane x
  match a with
  | 0 => exact (hr k).trans_lt (show 16 * t + k.val < 32 by omega)
  | 1 => exact (hc k).trans_lt (hw _)

/-- Sixteen ones more. -/
theorem store_ones (w : ℕ → ℕ) (t b : ℕ) (r c : IVec S16 32)
    (hr : ∀ k : Fin 16, (r (Shape.ofLane k)).toNat = 16 * t + k.val) (hc : ∀ k : Fin 16, (c (Shape.ofLane k)).toNat = w (b + (16 * t + k.val)))
    (h : ∀ a x, ((![r, c] : Fin 2 → IVec S16 32) a x).toNat < S32x1024.size a) :
    storeIdx (F := F) (rows w b 0 (16 * t)) (![r, c] : Fin 2 → IVec S16 32) k0_pay1 (fun _ => 1#1) false h = rows (F := F) w b 0 (16 * (t + 1)) := by
  classical
  funext y
  refine (storeIdx_const (F := F) (rows w b 0 (16 * t)) r c one h y).trans ?_
  unfold rows
  by_cases hy : ∃ k : Fin 16, (y 0).val = (r (Shape.ofLane k)).toNat ∧ (y 1).val = (c (Shape.ofLane k)).toNat
  · rw [if_pos hy]
    obtain ⟨k, h0, h1⟩ := hy
    rw [hr] at h0
    rw [hc] at h1
    rw [if_pos ⟨⟨Nat.zero_le _, by omega⟩, by rw [h0]; exact h1⟩]
  · rw [if_neg hy]
    refine if_congr ⟨fun ⟨⟨a1, a2⟩, a3⟩ => ⟨⟨a1, by omega⟩, a3⟩, fun ⟨⟨a1, a2⟩, a3⟩ => ⟨⟨a1, ?_⟩, a3⟩⟩ rfl rfl
    by_contra hlt
    refine hy ⟨⟨(y 0).val - 16 * t, by omega⟩, ?_, ?_⟩
    · rw [hr]; show _ = 16 * t + ((y 0).val - 16 * t); omega
    · rw [hc, a3]; show w _ = w (b + (16 * t + ((y 0).val - 16 * t))); congr 2; omega

/-- Sixteen ones fewer. -/
theorem store_zeros (w : ℕ → ℕ) (t b : ℕ) (r c : IVec S16 32)
    (hr : ∀ k : Fin 16, (r (Shape.ofLane k)).toNat = 16 * t + k.val) (hc : ∀ k : Fin 16, (c (Shape.ofLane k)).toNat = w (b + (16 * t + k.val)))
    (h : ∀ a x, ((![r, c] : Fin 2 → IVec S16 32) a x).toNat < S32x1024.size a) :
    storeIdx (F := F) (rows w b (16 * t) 32) (![r, c] : Fin 2 → IVec S16 32) k0_pay2 (fun _ => 1#1) false h = rows (F := F) w b (16 * (t + 1)) 32 := by
  classical
  funext y
  refine (storeIdx_const (F := F) (rows w b (16 * t) 32) r c zero h y).trans ?_
  unfold rows
  by_cases hy : ∃ k : Fin 16, (y 0).val = (r (Shape.ofLane k)).toNat ∧ (y 1).val = (c (Shape.ofLane k)).toNat
  · rw [if_pos hy]
    obtain ⟨k, h0, h1⟩ := hy
    rw [hr] at h0
    rw [if_neg (fun h' => by have := h'.1.1; omega)]
  · rw [if_neg hy]
    refine if_congr ⟨fun ⟨⟨a1, a2⟩, a3⟩ => ⟨⟨?_, a2⟩, a3⟩, fun ⟨⟨a1, a2⟩, a3⟩ => ⟨⟨by omega, a2⟩, a3⟩⟩ rfl rfl
    by_contra hlt
    refine hy ⟨⟨(y 0).val - 16 * t, by omega⟩, ?_, ?_⟩
    · rw [hr]; show _ = 16 * t + ((y 0).val - 16 * t); omega
    · rw [hc, a3]; show w _ = w (b + (16 * t + ((y 0).val - 16 * t))); congr 2; omega

/-- A block with no one-hot row is zero, whatever its first row. -/
theorem rows_none (w : ℕ → ℕ) (b n : ℕ) : rows (F := F) w b n n = fun _ => zero := by
  funext y
  exact if_neg fun h => by have := h.1; omega

theorem rows_done (w : ℕ → ℕ) (b : ℕ) : rows (F := F) w b 32 32 = fun _ => zero := rows_none w b 32

/-- The precondition: every code is below 1024. -/
theorem codes_lt (i : IVec S8192 32) (h : Cert.Pre_indices_in_range.fn (F := F) i = fun _ => 1#1) (j : S8192.Idx) : (i j).toNat < 1024 := by
  have key : ∀ v : BitVec 32, IntOp.andi (IntOp.cmpi .sge v 0#32) (IntOp.cmpi .slt v 1024#32) = 1#1 → v.toNat < 1024 := by
    have and_bool (p q : Bool) : IntOp.andi (BitVec.ofBool p) (BitVec.ofBool q) = BitVec.ofBool (p && q) := by
      cases p <;> cases q <;> decide
    have bool_one (p : Bool) : (BitVec.ofBool p = 1#1) ↔ p = true := by cases p <;> decide
    intro v e
    simp only [IntOp.cmpi, and_bool, bool_one, Bool.and_eq_true, BitVec.sle_eq_decide, BitVec.slt_eq_decide,
      decide_eq_true_eq, BitVec.toInt_eq_toNat_cond, BitVec.toNat_ofNat, Nat.reducePow, Nat.reduceMod] at e
    omega
  have : Subsingleton Cert.Pre_indices_in_range.S_.Idx := ⟨fun a b => funext fun z => z.elim0⟩
  have e := congrFun h (fun z => z.elim0)
  exact key _ (Host.reduce_andi_all _ _ _ _ _ e j)

end Cert.OnehotIdeal.Hand

end
-- ==== Proof.OnehotTile.lean ====
/-
  One task of the SparseCore call. Task `(c, s)` fetches the 256 codes of its rows and a block of 32 rows of zeros, and
  eight times over sets a one in each row of the block, sends the block out to its 32 rows of the result, and clears the
  ones again. Its two inner loops keep the block at `rows …`; the outer loop keeps the rows sent out at `hot …`.
-/
module

public import proofs.«01_k».proof.Proof.OnehotSpec
public import Idealize.ShloMosaic.Lib.SparseCore.Quiescent
public import Idealize.ShloMosaic.Lib.SparseCore.Ops
public import Idealize.ShloMosaic.Lib.SparseCore.FromWhole
public import Idealize.ShloMosaic.Lib.ShareLeaves
public import Idealize.ShloMosaic.Lib.StableHlo.Run
public import Idealize.ShloMosaic.Lib.Pipeline.Kit
public import Idealize.ShloMosaic.Lib.Tactic

@[expose] public section

noncomputable section

namespace Cert.OnehotIdeal.Hand

open Cert.OnehotIdeal Cert.OnehotIdeal.Gen Cert.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters
/-- The resources the proof is over. -/
abbrev Res (F : FTy → Type) : Type _ := MT nD τ sig (HIx 1) (Elt F) ℕ UU ℕ
abbrev EH : Emb UH (Res F) := embL

/-! ## The buffers -/

abbrev iLoc (d : Dev nD) : Loc nD τ sig := (SparseCore.T d).loc main_arg0
abbrev zLoc (d : Dev nD) : Loc nD τ sig := (SparseCore.T d).loc main_v0
abbrev oLoc (d : Dev nD) : Loc nD τ sig := (SparseCore.T d).loc main_v1

abbrev iV : Memref sig .scVector .hbm S8192 .i32 := Memref.whole main_arg0_scv
abbrev zV : Memref sig .scVector .hbm S32x1024 .f32 := Memref.whole main_v0_scv
abbrev oV : Memref sig .scVector .hbm S8192x1024 .f32 := Memref.whole main_v1_scv
abbrev sV : Memref sig .scVector .vmem S256 .i32 := Memref.whole cc0_scratch0
abbrev bV : Memref sig .scVector .vmem S32x1024 .f32 := Memref.whole cc0_scratch1

abbrev cV (L : grid0.Coords) : Fin τ.nSC := (L 0).castLE hcore0
abbrev jV (L : grid0.Coords) : Fin τ.nSub := (L 1).castLE hsub0

variable [FloatOps F] (d : Dev nD) (L : grid0.Coords)

/-- The task's thread. -/
abbrev thr : Thread nD τ := V d (cV L) (jV L)

/-- Its first row. -/
def base : ℕ := 512 * (L 1).val + 256 * (L 0).val

abbrev sPts (f : Buf (Elt F) ((thr d L).loc cc0_scratch0)) : sProp (Res F) := (sV).view.loc (thr d L) ↦{fullShare} f
abbrev bPts (f : Buf (Elt F) ((thr d L).loc cc0_scratch1)) : sProp (Res F) := (bV).view.loc (thr d L) ↦{fullShare} f

omit [FloatOps F] in
/-- The block, as the store through indices names it. -/
theorem bPts_access (f : Buf (Elt F) ((thr d L).loc cc0_scratch1)) :
    (((bV).access (.whole S32x1024)).loc (thr d L) ↦[((bV).access (.whole S32x1024)).set]{fullShare} f : sProp (Res F)) = bPts d L f := by
  rw [show ((bV).access (.whole S32x1024)).set = Finset.univ from Memref.set_access_whole (cc0_scratch1 : Ref sig .scVector)]

omit [FloatOps F] in
/-- Sixteen of the fetched codes, read at a lane. -/
theorem codes_lane (w : ℕ → ℕ) (c5 : S256.Idx → BitVec 32) (hc : ∀ j : S256.Idx, (c5 j).toNat = w (base L + (j 0).val))
    (off : Fin 1 → ℕ) (inb : ∀ a, off a + S16.size a ≤ S256.size a) (n t : ℕ) (hoff : off = ![32 * n + 16 * t]) (k : Fin 16) :
    ((sV).view.readAt (Elt F) (Rect.unit (s := S256) off S16.size inb).toLoadRect c5 (Shape.ofLane k)).toNat
      = w (base L + 32 * n + (16 * t + k.val)) := by
  rw [View.readAt_apply]
  refine (hc _).trans (congrArg w ?_)
  show base L + (off 0 + 1 * k.val) = _
  rw [hoff]
  show base L + ((32 * n + 16 * t) + 1 * k.val) = _
  omega

/-- What a store through indices leaves in the block. -/
theorem stored (f : Vec F S32x1024 .f32) (idxs : Fin S32x1024.rank → IVec S16 32) (v : Vec F S16 .f32)
    (h : ∀ a x, (idxs a x).toNat < S32x1024.size a) :
    ((bV).access (.whole S32x1024)).write (Elt F) f
        (storeIdx (F := F) (((bV).access (.whole S32x1024)).read (Elt F) f) idxs v (fun _ => 1#1) false h) Finset.univ
      = storeIdx (F := F) f idxs v (fun _ => 1#1) false h :=
  (Memref.write_access_whole_univ (Elt F) cc0_scratch1 _ _).trans
    (congrArg (fun g : Vec F S32x1024 .f32 => storeIdx (F := F) g idxs v (fun _ => 1#1) false h) (Memref.read_access_whole (Elt F) cc0_scratch1 f))

/-! ## The inner loops -/

/-- Before trip `n` of the loop that sets the ones. -/
def setInv (c5 : S256.Idx → BitVec 32) (w : ℕ → ℕ) (b : ℕ) (n : ℕ) (_ : Unit) : sProp (Res F) :=
  iprop(sPts d L c5 ∗ bPts d L (rows w b 0 (16 * n)))

/-- Before trip `n` of the loop that clears them. -/
def clearInv (c5 : S256.Idx → BitVec 32) (w : ℕ → ℕ) (b : ℕ) (n : ℕ) (_ : Unit) : sProp (Res F) :=
  iprop(sPts d L c5 ∗ bPts d L (rows w b (16 * n) 32))

variable (w : ℕ → ℕ) (hw : ∀ n, w n < 1024) (c5 : S256.Idx → BitVec 32) (hc : ∀ j : S256.Idx, (c5 j).toNat = w (base L + (j 0).val))

include hw hc in
theorem set_trip (t1 : Fin k0_t1_loop.trips) (t : Fin k0_t2_loop.trips) (u : Unit) :
    setInv (F := F) d L c5 w (base L + 32 * t1.val) t.val u
      ⊢ wp frame (wpE (defs₀ (F := F)) 𝒱₀ (thr d L) none) Set.univ
          (k0_t2_body L iV (Memref.isWhole_whole _) zV (Memref.isWhole_whole _) oV (Memref.isWhole_whole _)
            sV (Memref.isWhole_whole _) bV (Memref.isWhole_whole _) cc0_scoped0 cc0_scoped1 cc0_scoped2 t1 t u)
          (setInv d L c5 w (base L + 32 * t1.val) (t.val + 1)) := by
  have hr := pay3_lane t
  have hl := codes_lane (F := F) L w c5 hc (k0_off2 t1 t) (k0_off2_inb t1 t) t1.val t.val (k0_off2_eq t1 t)
  have ht : t.val < 2 := trips2 ▸ t.isLt
  unfold setInv k0_t2_body
  iintro ⟨Hs, Hb⟩
  iapply (wp_load 𝒱₀ (thr d L) none Set.univ (m := sV) (S := Finset.univ) (Finset.subset_univ _)) $$ Hs; iintro Hs
  iapply (wp_assume 𝒱₀ (thr d L) none Set.univ (show k0_chk1 _ _ from lanes_inb w hw t.val (base L + 32 * t1.val) ht _ _ hr hl))
  ihave Hb' := (Entails.of_eq (bPts_access (F := F) d L _).symm) $$ Hb
  iapply (SparseCore.wp_vectorStoreIdx 𝒱₀ (thr d L) none Set.univ (base := bV)) $$ Hb'; iintro Hb
  ihave Hb' := (Entails.of_eq (bPts_access (F := F) d L _)) $$ Hb
  sl_step
  isplitl [Hs]; · iexact Hs
  iapply (Entails.of_eq (congrArg (bPts (F := F) d L) ((stored _ _ _ _).trans
    (store_ones w t.val (base L + 32 * t1.val) _ _ hr hl (lanes_inb w hw t.val (base L + 32 * t1.val) ht _ _ hr hl))))) $$ Hb'

include hw hc in
theorem clear_trip (t1 : Fin k0_t1_loop.trips) (t : Fin k0_t3_loop.trips) (u : Unit) :
    clearInv (F := F) d L c5 w (base L + 32 * t1.val) t.val u
      ⊢ wp frame (wpE (defs₀ (F := F)) 𝒱₀ (thr d L) none) Set.univ
          (k0_t3_body L iV (Memref.isWhole_whole _) zV (Memref.isWhole_whole _) oV (Memref.isWhole_whole _)
            sV (Memref.isWhole_whole _) bV (Memref.isWhole_whole _) cc0_scoped0 cc0_scoped1 cc0_scoped2 t1 t u)
          (clearInv d L c5 w (base L + 32 * t1.val) (t.val + 1)) := by
  have hr := pay4_lane t
  have hl := codes_lane (F := F) L w c5 hc (k0_off4 t1 t) (k0_off4_inb t1 t) t1.val t.val (k0_off4_eq t1 t)
  have ht : t.val < 2 := trips3 ▸ t.isLt
  unfold clearInv k0_t3_body
  iintro ⟨Hs, Hb⟩
  iapply (wp_load 𝒱₀ (thr d L) none Set.univ (m := sV) (S := Finset.univ) (Finset.subset_univ _)) $$ Hs; iintro Hs
  iapply (wp_assume 𝒱₀ (thr d L) none Set.univ (show k0_chk2 _ _ from lanes_inb w hw t.val (base L + 32 * t1.val) ht _ _ hr hl))
  ihave Hb' := (Entails.of_eq (bPts_access (F := F) d L _).symm) $$ Hb
  iapply (SparseCore.wp_vectorStoreIdx 𝒱₀ (thr d L) none Set.univ (base := bV)) $$ Hb'; iintro Hb
  ihave Hb' := (Entails.of_eq (bPts_access (F := F) d L _)) $$ Hb
  sl_step
  isplitl [Hs]; · iexact Hs
  iapply (Entails.of_eq (congrArg (bPts (F := F) d L) ((stored _ _ _ _).trans
    (store_zeros w t.val (base L + 32 * t1.val) _ _ hr hl (lanes_inb w hw t.val (base L + 32 * t1.val) ht _ _ hr hl))))) $$ Hb'

/-! ## Sending a block out -/

/-- The 32 rows of the result that trip `n` of the outer loop writes. -/
abbrev oRect (t1 : Fin k0_t1_loop.trips) : Rect S8192x1024 := Rect.unit (s := S8192x1024) (k0_off3 L t1) S32x1024.size (k0_off3_inb L t1)
abbrev oBlk (t1 : Fin k0_t1_loop.trips) : Memref sig .scVector .hbm S32x1024 .f32 := (oV).slice (oRect L t1) (fun _ => rfl)

omit [FloatOps F] in
theorem oBlk_set (t1 : Fin k0_t1_loop.trips) : (oBlk L t1).view.set = (oRect L t1).set := by
  show ((View.whole (main_v1_scv : Ref sig .scVector)).slice (oRect L t1)).set = _
  exact View.set_slice_whole _ _

omit [FloatOps F] in
theorem mem_oRect (t1 : Fin k0_t1_loop.trips) (y : S8192x1024.Idx) :
    y ∈ (oRect L t1).set ↔ base L + 32 * t1.val ≤ (y 0).val ∧ (y 0).val < base L + 32 * t1.val + 32 := by
  rw [Rect.mem_set_unit, k0_off3_eq]
  constructor
  · intro h; exact h 0
  · intro h a
    match a with
    | 0 => exact h
    | 1 => exact ⟨Nat.zero_le _, (y 1).isLt.trans_eq (Nat.zero_add _).symm⟩

omit [FloatOps F] in
/-- Where an element of the block goes. -/
theorem row_emb (t1 : Fin k0_t1_loop.trips) (y : S8192x1024.Idx) (x : S32x1024.Idx)
    (h0 : (y 0).val = base L + 32 * t1.val + (x 0).val) (h1 : (y 1).val = (x 1).val) : y = (oBlk L t1).view.emb x := by
  have e0 : (((oBlk L t1).view.emb x) 0).val = k0_off3 L t1 0 + 1 * (x 0).val := rfl
  have e1 : (((oBlk L t1).view.emb x) 1).val = k0_off3 L t1 1 + 1 * (x 1).val := rfl
  have c0 : k0_off3 L t1 0 = base L + 32 * t1.val := congrFun (k0_off3_eq L t1) 0
  have c1 : k0_off3 L t1 1 = 0 := congrFun (k0_off3_eq L t1) 1
  funext a
  refine Fin.ext ?_
  fin_cases a
  · exact h0.trans ((e0.trans (by rw [c0, Nat.one_mul])).symm)
  · exact h1.trans ((e1.trans (by rw [c1, Nat.one_mul, Nat.zero_add])).symm)

/-- The rows sent so far, one block more. -/
theorem sent (idx : IVec S8192 32) (t1 : Fin k0_t1_loop.trips) (f : S8192x1024.Idx → Elt F .f32)
    (hf : ∀ y : S8192x1024.Idx, base L ≤ (y 0).val → (y 0).val < base L + 32 * t1.val → f y = hot (F := F) idx y) (y : S8192x1024.Idx)
    (h0 : base L ≤ (y 0).val) (h1 : (y 0).val < base L + 32 * (t1.val + 1)) :
    (oBlk L t1).view.write (Elt F) f (rows (F := F) (wd idx) (base L + 32 * t1.val) 0 32) Finset.univ y = hot (F := F) idx y := by
  by_cases hy : y ∈ (oRect L t1).set
  · have hm := (mem_oRect L t1 y).mp hy
    have e : y = (oBlk L t1).view.emb (ix2 (n0 := 32) (n1 := 1024) ⟨(y 0).val - (base L + 32 * t1.val), by omega⟩ (y 1)) := by
      refine row_emb L t1 y _ ?_ ?_
      · show (y 0).val = base L + 32 * t1.val + ((y 0).val - (base L + 32 * t1.val))
        omega
      · rfl
    rw [e, View.write_emb_of_mem _ _ (Finset.mem_univ _), ← e]
    refine (cast_eq _ _).trans ?_
    unfold rows hot
    refine if_congr ⟨fun h => ?_, fun h => ⟨⟨Nat.zero_le _, ?_⟩, ?_⟩⟩ rfl rfl
    · refine h.2.trans (congrArg (wd idx) ?_)
      show base L + 32 * t1.val + ((y 0).val - (base L + 32 * t1.val)) = _
      omega
    · show (y 0).val - (base L + 32 * t1.val) < 32
      omega
    · refine Eq.trans h (congrArg (wd idx) ?_)
      show _ = base L + 32 * t1.val + ((y 0).val - (base L + 32 * t1.val))
      omega
  · rw [View.write_of_not_mem _ _ _ (by rw [show (oBlk L t1).view.setOn Finset.univ = (oBlk L t1).view.set from rfl, oBlk_set]; exact hy)]
    refine hf y h0 ?_
    by_contra hlt
    exact hy ((mem_oRect L t1 y).mpr ⟨by omega, by omega⟩)

end Cert.OnehotIdeal.Hand

end
-- ==== Proof.OnehotBody.lean ====
/-
  One task of the SparseCore call from its fetches to its end: the outer loop over the eight blocks of its rows, and the
  task as a whole.
-/
module

public import proofs.«01_k».proof.Proof.OnehotTile

@[expose] public section

noncomputable section

namespace Cert.OnehotIdeal.Hand

open Cert.OnehotIdeal Cert.OnehotIdeal.Gen Cert.Hand
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The tasks' shares of the arrays -/

theorem idiv : 32 ∣ S8192.size 0 := ⟨256, rfl⟩
theorem odiv : 32 ∣ S8192x1024.size 0 := ⟨256, rfl⟩
abbrev irow (i : Fin 32) : Rect S8192 := Rect.part (s := S8192) (a₀ := 0) idiv i
abbrev orow (i : Fin 32) : Rect S8192x1024 := Rect.part (s := S8192x1024) (a₀ := 0) odiv i
abbrev iRowSet (i : Fin 32) : Finset S8192.Idx := ((iV).view.slice (irow i)).set
abbrev oRowSet (i : Fin 32) : Finset S8192x1024.Idx := ((oV).view.slice (orow i)).set
/-- Every task reads all of the zeros: it holds one thirty-second share of them. -/
abbrev zq (i : Fin 32) : PosShare TreeShare := ShareLeaves.leaf 5 fullShare i

theorem iRowSet_eq (i : Fin 32) : iRowSet i = (irow i).set := View.set_slice_whole (main_arg0_scv : Ref sig .scVector) (irow i)
theorem oRowSet_eq (i : Fin 32) : oRowSet i = (orow i).set := View.set_slice_whole (main_v1_scv : Ref sig .scVector) (orow i)

theorem mem_oRowSet (i : Fin 32) (y : S8192x1024.Idx) : y ∈ oRowSet i ↔ 256 * i.val ≤ (y 0).val ∧ (y 0).val < 256 * i.val + 256 := by
  rw [oRowSet_eq, Rect.mem_set_unit]
  have e0 : S8192x1024.partIx 0 i.val 0 * S8192x1024.partSize 0 32 0 = 256 * i.val := by simp [Shape.partIx, Shape.partSize]; omega
  have s0 : S8192x1024.partSize 0 32 0 = 256 := by simp [Shape.partSize]
  have e1 : S8192x1024.partIx 0 i.val 1 * S8192x1024.partSize 0 32 1 = 0 := by simp [Shape.partIx]
  have s1 : S8192x1024.partSize 0 32 1 = 1024 := by simp [Shape.partSize]
  constructor
  · intro h
    have h0 := h 0
    rw [e0, s0] at h0
    exact h0
  · intro h a
    have key : ∀ a : Fin 2, S8192x1024.partIx 0 i.val a * S8192x1024.partSize 0 32 a ≤ (y a).val
        ∧ (y a).val < S8192x1024.partIx 0 i.val a * S8192x1024.partSize 0 32 a + S8192x1024.partSize 0 32 a := by
      refine Fin.forall_fin_two.mpr ⟨?_, ?_⟩
      · rw [e0, s0]; exact h
      · rw [e1, s1]; exact ⟨Nat.zero_le _, (y 1).isLt.trans_eq (Nat.zero_add _).symm⟩
    exact key a

variable [FloatOps F] (d : Dev nD) (L : grid0.Coords)

/-- The task's number. -/
def tix (L : grid0.Coords) : Fin 32 := ⟨2 * (L 1).val + (L 0).val, by
  have h0 : (L 0).val < 2 := (L 0).isLt
  have h1 : (L 1).val < 16 := (L 1).isLt
  omega⟩

omit [FloatOps F] in
theorem base_eq : base L = 256 * (tix L).val := by
  show 512 * (L 1).val + 256 * (L 0).val = 256 * (2 * (L 1).val + (L 0).val)
  omega

/-- The codes' part as the task addresses it. -/
abbrev iRowK (L : grid0.Coords) : Memref sig .scVector .hbm S256 .i32 :=
  (iV).slice (Rect.unit (s := S8192) (k0_off1 L) S256.size (k0_off1_inb L)) (fun _ => rfl)

omit [FloatOps F] in
theorem irowK_eq : (Rect.unit (s := S8192) (k0_off1 L) S256.size (k0_off1_inb L)) = irow (tix L) := by
  unfold irow Rect.part Rect.block
  congr 1 <;> funext a
  · rw [k0_off1_eq]
    match a with
    | 0 => simp [Shape.partIx, Shape.partSize, tix]; omega
  · match a with
    | 0 => simp [Shape.partSize]

omit [FloatOps F] in
theorem set_iRowK : (iRowK L).view.set = iRowSet (tix L) := by
  show ((iV).view.slice (Rect.unit (s := S8192) (k0_off1 L) S256.size (k0_off1_inb L))).set = ((iV).view.slice (irow (tix L))).set
  exact irowK_eq L ▸ rfl

omit [FloatOps F] in
theorem pts_iRowK (f : Buf (Elt F) (iLoc d)) :
    ((iRowK L).view.loc (thr d L) ↦[(iRowK L).view.set]{fullShare} f : sProp (Res F)) = iLoc d ↦[iRowSet (tix L)]{fullShare} f := by
  rw [set_iRowK]
omit [FloatOps F] in
theorem pts_zV (q : PosShare TreeShare) (f : Buf (Elt F) (zLoc d)) :
    ((zV).view.loc (thr d L) ↦{q} f : sProp (Res F)) = zLoc d ↦{q} f := rfl

/-! ## The outer loop -/

/-- Before trip `n`: the block is zero, and the rows of the first `n` blocks are one-hot. -/
def outInv (idx : IVec S8192 32) (c5 : S256.Idx → BitVec 32) (O : CellTallies nD τ sig (HIx 1)) (W : Waits sig (HIx 1)) (n : ℕ) (_ : Unit) : sProp (Res F) :=
  iprop(Transfers.MayWaits (thr d L) (none : HIx 1) O ∗ sPts d L c5 ∗ bPts d L (fun _ => zero)
    ∗ (∃ f : Buf (Elt F) (oLoc d), ⌜∀ y : S8192x1024.Idx, base L ≤ (y 0).val → (y 0).val < base L + 32 * n → f y = hot (F := F) idx y⌝ ∗ oLoc d ↦[oRowSet (tix L)]{fullShare} f)
    ∗ semVal (thr d L, SemLoc.dma cc0_scoped2.sem) 0
    ∗ ∃ W', ⌜∀ p ∈ W', p ∈ W ∨ p.2 = none⌝ ∗ owes (thr d L) O W')

omit [FloatOps F] in
theorem oBlk_sub (t1 : Fin k0_t1_loop.trips) : (oBlk L t1).view.set ⊆ oRowSet (tix L) := by
  intro y hy
  rw [oBlk_set] at hy
  have h := (mem_oRect L t1 y).mp hy
  have ht : t1.val < 8 := trips1 ▸ t1.isLt
  rw [base_eq] at h
  exact (mem_oRowSet (tix L) y).mpr ⟨by omega, by omega⟩

/-- The block after the ones are set, as sent, and after they are cleared. -/
theorem rows_set (w : ℕ → ℕ) (b : ℕ) : rows (F := F) w b 0 (16 * k0_t2_loop.trips) = rows w b (16 * 0) 32 := by rw [trips2]
theorem rows_sent (w : ℕ → ℕ) (b : ℕ) : rows (F := F) w b 0 (16 * k0_t2_loop.trips) = rows w b 0 32 := by rw [trips2]
theorem rows_cleared (w : ℕ → ℕ) (b : ℕ) : rows (F := F) w b (16 * k0_t3_loop.trips) 32 = fun _ => zero := by
  rw [trips3]
  exact rows_done w b

theorem out_trip (idx : IVec S8192 32) (hi : ∀ j, (idx j).toNat < 1024) (c5 : S256.Idx → BitVec 32)
    (hc : ∀ j : S256.Idx, (c5 j).toNat = wd idx (base L + (j 0).val)) (O : CellTallies nD τ sig (HIx 1)) (W : Waits sig (HIx 1))
    (t1 : Fin k0_t1_loop.trips) (u : Unit) :
    outInv (F := F) d L idx c5 O W t1.val u
      ⊢ wp frame (wpE (defs₀ (F := F)) 𝒱₀ (thr d L) none) Set.univ
          (k0_t1_body L iV (Memref.isWhole_whole _) zV (Memref.isWhole_whole _) oV (Memref.isWhole_whole _)
            sV (Memref.isWhole_whole _) bV (Memref.isWhole_whole _) cc0_scoped0 cc0_scoped1 cc0_scoped2 t1 u)
          (outInv d L idx c5 O W (t1.val + 1)) := by
  have hw := wd_lt idx hi
  unfold outInv k0_t1_body
  iintro ⟨#Hmw, Hs, Hb, ⟨%f, %hf, Ho⟩, Hsem, %W', %hW', HO⟩
  sl_for (setInv d L c5 (wd idx) (base L + 32 * t1.val)) $$ [Hs Hb]
  case region => intro t u; exact set_trip d L (wd idx) hw c5 hc t1 t u
  · unfold setInv
    isplitl [Hs]; · iexact Hs
    iapply (Entails.of_eq (congrArg (bPts (F := F) d L) (rows_none (wd idx) (base L + 32 * t1.val) 0).symm)) $$ Hb
  iintro %_ HI
  unfold setInv
  icases HI with ⟨Hs, Hb⟩
  iapply (Transfers.wp_dmaFromWhole countersEmb 𝒱₀ (thr d L) none (src := bV) (dst := oBlk L t1) (Sd := oRowSet (tix L)) (default : HIx 1) _ rfl
    (View.amount_pos _ _ (show 0 < S32x1024.numel by decide)) (oBlk_sub L t1)) $$ [Hb Ho Hsem]
  · isplitl [Hb]; · iexact Hb
    isplitl [Ho]; · iexact Ho
    iexact Hsem
  iintro Hfl
  iapply (Transfers.wp_waitLocalO countersEmb 𝒱₀ (thr d L) none (default : HIx 1) (rfl : _ = _)) $$ [Hfl HO]
  · isplitl [Hfl]; · iexact Hfl
    isplitl [HO]; · iexact HO
    iapply (Transfers.MayWaits.elim (SemLoc.dma cc0_scoped2.sem)) $$ Hmw
  iintro ⟨⟨Ho, Hb⟩, Hsem, HO⟩
  simp only [Prog.bind]
  sl_for (clearInv d L c5 (wd idx) (base L + 32 * t1.val)) $$ [Hs Hb]
  case region => intro t u; exact clear_trip d L (wd idx) hw c5 hc t1 t u
  · unfold clearInv
    isplitl [Hs]; · iexact Hs
    iapply (Entails.of_eq (congrArg (bPts (F := F) d L) (rows_set (wd idx) (base L + 32 * t1.val)))) $$ Hb
  iintro %_ HI
  unfold clearInv
  icases HI with ⟨Hs, Hb⟩
  sl_step
  isplitr; · iexact Hmw
  isplitl [Hs]; · iexact Hs
  isplitl [Hb]; · iapply (Entails.of_eq (congrArg (bPts (F := F) d L) (rows_cleared (wd idx) (base L + 32 * t1.val)))) $$ Hb
  isplitl [Ho]
  · iexists _
    isplitr
    swap
    · iexact Ho
    ipureintro
    intro y h0 h1
    refine Eq.trans (congrFun (congrArg (fun g => (oBlk L t1).view.write (Elt F) f g Finset.univ) ?_) y) (sent L idx t1 f hf y h0 h1)
    exact rows_sent (wd idx) (base L + 32 * t1.val)
  isplitl [Hsem]; · iexact Hsem
  iexists (insert (SemLoc.dma cc0_scoped2.sem, (default : HIx 1)) W'); isplitr
  · ipureintro; intro p hp
    rcases Finset.mem_insert.mp hp with hp | hp
    · exact .inr (hp ▸ rfl)
    · exact hW' p hp
  · iexact HO

/-! ## The task -/

abbrev cA (d : Dev nD) (c : Fin τ.nSC) (i : Fin τ.nSub) : GSem nD τ sig := (V d c i, .dma cc0_scoped0.sem)
abbrev cB (d : Dev nD) (c : Fin τ.nSC) (i : Fin τ.nSub) : GSem nD τ sig := (V d c i, .dma cc0_scoped1.sem)
abbrev cC (d : Dev nD) (c : Fin τ.nSC) (i : Fin τ.nSub) : GSem nD τ sig := (V d c i, .dma cc0_scoped2.sem)

omit [FloatOps F] in
theorem ownSems0_V :
    (ownSems0 (V d (cV L) (jV L)) : sProp (Res F))
      = iprop(semVal (cA d (cV L) (jV L)) 0 ∗ semVal (cB d (cV L) (jV L)) 0 ∗ semVal (cC d (cV L) (jV L)) 0
          ∗ bigSep ((((ownCells (V d (cV L) (jV L))).erase (cA d (cV L) (jV L))).erase (cB d (cV L) (jV L))).erase (cC d (cV L) (jV L))) fun g => semVal g 0) := by
  unfold SparseCore.Cfg.ownSems0
  rw [SparseCore.bigSep_erase' ((mem_ownCells (g := cA d (cV L) (jV L))).mpr ⟨rfl, by
      show (SemLoc.dma cc0_scoped0.sem : SemLoc sig).isScoped .scVector = true; decide⟩),
    SparseCore.bigSep_erase' (Finset.mem_erase.mpr ⟨by simp [cA, cB]; decide, (mem_ownCells (g := cB d (cV L) (jV L))).mpr ⟨rfl, by
      show (SemLoc.dma cc0_scoped1.sem : SemLoc sig).isScoped .scVector = true; decide⟩⟩),
    SparseCore.bigSep_erase' (Finset.mem_erase.mpr ⟨by simp [cB, cC]; decide, Finset.mem_erase.mpr ⟨by simp [cA, cC]; decide,
      (mem_ownCells (g := cC d (cV L) (jV L))).mpr ⟨rfl, by show (SemLoc.dma cc0_scoped2.sem : SemLoc sig).isScoped .scVector = true; decide⟩⟩⟩)]

omit [FloatOps F] in
/-- The two scratch buffers are among the subcore's own. -/
theorem ownBufs_V :
    (ownBufs (V d (cV L) (jV L)) : sProp (Res F))
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- What the fetch of the codes leaves. -/
theorem fetched (idx : Buf (Elt F) (iLoc d)) (fs : Buf (Elt F) ((thr d L).loc cc0_scratch0)) (pay : S256.Idx → Elt F .i32)
    (hpay : pay = (iRowK L).view.read (Elt F) idx) (j : S256.Idx) :
    BitVec.toNat (View.write (Elt F) (sV).view fs pay Finset.univ j) = wd idx (base L + (j 0).val) := by
  subst hpay
  have hb := base_eq L
  have hx := (tix L).isLt
  have hj : (j 0).val < 256 := (j 0).isLt
  rw [wd_of_lt _ (show base L + (j 0).val < 8192 by omega)]
  rw [show View.write (Elt F) (sV).view fs ((iRowK L).view.read (Elt F) idx) Finset.univ = (iRowK L).view.read (Elt F) idx from View.write_whole_univ _ _ _]
  rw [show (iRowK L).view.read (Elt F) idx j = idx ((iRowK L).view.emb j) from (View.read_apply _ _).trans (cast_eq _ _)]
  refine congrArg BitVec.toNat (congrArg idx ?_)
  funext a
  match a with
  | 0 =>
    refine Fin.ext ?_
    show k0_off1 L 0 + 1 * (j 0).val = base L + (j 0).val
    rw [show k0_off1 L 0 = base L from congrFun (k0_off1_eq L) 0, Nat.one_mul]

/-- After the last trip all the task's rows are one-hot. -/
theorem filled (idx : Buf (Elt F) (iLoc d)) (f : Buf (Elt F) (oLoc d))
    (hf : ∀ y : S8192x1024.Idx, base L ≤ (y 0).val → (y 0).val < base L + 32 * k0_t1_loop.trips → f y = hot (F := F) idx y) :
    ∀ y ∈ oRowSet (tix L), f y = hot (F := F) idx y := by
  intro y hy
  have h := (mem_oRowSet (tix L) y).mp hy
  have hb := base_eq L
  rw [trips1] at hf
  exact hf y (by omega) (by omega)

/-- What a task is handed: its codes, its share of the zeros, and its rows of the result at `g`. -/
abbrev taskPts (d : Dev nD) (i : Fin 32) (idx : Buf (Elt F) (iLoc d)) (g : Buf (Elt F) (oLoc d)) : sProp (Res F) :=
  iprop((iLoc d ↦[iRowSet i]{fullShare} idx) ∗ (zLoc d ↦{zq i} (fun _ => zero)) ∗ oLoc d ↦[oRowSet i]{fullShare} g)

set_option maxHeartbeats 4000000 in
/-- The task on vector subcore `(L 0, L 1)`. -/
theorem tile_body (idx : Buf (Elt F) (iLoc d)) (g : Buf (Elt F) (oLoc d)) (hF : (K (F := F)).Facts) (hi : ∀ j, BitVec.toNat (idx j) < 1024)
    (O : CellTallies nD τ sig (HIx 1)) (W : Waits sig (HIx 1)) (hO : ∀ g, O g none = 0) :
    iprop(levAts (K (F := F)).L (K (F := F)).lev ∗ emp ∗ taskPts d (tix L) idx g
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_onehot L iV (Memref.isWhole_whole _) zV (Memref.isWhole_whole _) oV (Memref.isWhole_whole _)
            sV (Memref.isWhole_whole _) bV (Memref.isWhole_whole _) cc0_scoped0 cc0_scoped1 cc0_scoped2)
          fun _ => iprop(taskPts d (tix L) idx (hot (F := F) idx)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_onehot_eq_skeleton]; unfold cc0__sc_onehot_skel
  rw [(K (F := F)).scopedBufs_V hF d (cV L) (jV L), SparseCore.Cfg.scopedSems0_V (Val := Elt F) d (cV L) (jV L), ownSems0_V, ownBufs_V]
  iintro ⟨#Hlv, -, ⟨Hi, Hz, Ho⟩, ⟨⟨%fs, Hs⟩, ⟨%fb, Hb⟩, Hbufs⟩, ⟨HsemA, HsemB, HsemC, Hsems⟩, HO⟩
  ihave #Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Hz' := (Entails.of_eq (pts_zV (F := F) d L _ _).symm) $$ Hz
  ihave Hs' := (Entails.of_eq (show ((V d (cV L) (jV L)).loc cc0_scratch0 ↦{fullShare} fs : sProp (Res F)) = sPts d L fs from rfl)) $$ Hs
  ihave Hb' := (Entails.of_eq (show ((V d (cV L) (jV L)).loc cc0_scratch1 ↦{fullShare} fb : sProp (Res F)) = bPts d L fb from rfl)) $$ Hb
  sl_exec
  have hc := fetched (F := F) d L idx fs (tile_body.sl.dma0 d L idx) rfl
  ihave Hb := (Entails.of_eq (show ((bV).view.loc (thr d L) ↦{fullShare} View.write (Elt F) (bV).view fb (tile_body.sl.dma0_1 d) Finset.univ : sProp (Res F))
      = bPts d L (fun _ => zero) from congrArg (bPts d L) (View.write_whole_univ _ _ _))) $$ Hb'
  sl_for (outInv d L idx (View.write (Elt F) (sV).view fs (tile_body.sl.dma0 d L idx) Finset.univ) O W) $$ [Hs' Hb Ho HsemC HO]
  case region => intro t u; exact out_trip d L idx hi _ hc O W t u
  · unfold outInv
    isplitr; · iexact Hmw
    isplitl [Hs']; · iexact Hs'
    isplitl [Hb]; · iexact Hb
    isplitl [Ho]
    · iexists _
      isplitr
      swap
      · iexact Ho
      ipureintro
      intro y h0 h1
      omega
    isplitl [HsemC]; · iexact HsemC
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact .inl hp
  iintro %_ HI
  unfold outInv
  icases HI with ⟨-, Hs, Hb, ⟨%f, %hf, Ho⟩, HsemC, HW⟩
  sl_step
  isplitl [Hi' Hz' Ho]
  · isplitl [Hi']; · iapply (Entails.of_eq (pts_iRowK (F := F) d L _)); iexact Hi'
    isplitl [Hz']; · iexact Hz'
    iapply (Entails.of_eq (pointsTo_congr (q := fullShare) (filled d L idx f hf))); iexact Ho
  isplitl [Hs Hb Hbufs]
  · isplitl [Hs]; · iexists _; iexact Hs
    isplitl [Hb]; · iexists _; iexact Hb
    iexact Hbufs
  isplitl [HsemA HsemB HsemC Hsems]
  · isplitl [HsemA]; · iexact HsemA
    isplitl [HsemB]; · iexact HsemB
    isplitl [HsemC]; · iexact HsemC
    iexact Hsems
  iexact HW

end Cert.OnehotIdeal.Hand

end
-- ==== Proof.OnehotLaunch.lean ====
/-
  The SparseCore call from launch to end: the arrays dealt out to the thirty-two tasks and put together again, the two
  operations before the call, and the program's run, which leaves the one-hot rows in its result.
-/
module

public import proofs.«01_k».proof.Proof.OnehotBody

@[expose] public section

noncomputable section

namespace Cert.OnehotIdeal.Hand

open Cert.OnehotIdeal Cert.OnehotIdeal.Gen Cert.Hand
open Idealize.ShloMosaic
open Idealize.ShloMosaic.StableHlo (held held_split held_sdiff_result wp_hlo_within)
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

omit [FloatOps F] in
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (m : (ℓ : Loc nD τ sig) → Buf (Elt F) ℓ) (ρ : Dev nD → PrngReg)

/-- The task of subcore `i` on SparseCore `c`. -/
def tid (c : Fin ((K (F := F)).nCore 0)) (i : Fin ((K (F := F)).nSub 0)) : Fin 32 :=
  ⟨2 * i.val + c.val, by
    have h0 : c.val < 2 := c.isLt
    have h1 : i.val < 16 := i.isLt
    omega⟩

/-- What the call's tasks are handed, -/
abbrev goPts (d : Dev nD) (i : Fin 32) : sProp (Res F) := taskPts d i (m (iLoc d)) (m (oLoc d))
/-- and what they bring back. -/
abbrev tdPts (d : Dev nD) (i : Fin 32) : sProp (Res F) := taskPts d i (m (iLoc d)) (hot (F := F) (m (iLoc d)))

/-- A SparseCore takes its sixteen tasks' parts of the arrays and brings them back. -/
def P : (K (F := F)).Pay (nD := nD) (Val := Elt F) (Name := ℕ) (U := UU) where
  st := fun q d c => match q with | 0 => bigSep Finset.univ fun i : Fin ((K (F := F)).nSub 0) => goPts m d (tid c i)
  dn := fun q d c => match q with | 0 => bigSep Finset.univ fun i : Fin ((K (F := F)).nSub 0) => tdPts m d (tid c i)
  go := fun q d c i => match q with | 0 => goPts m d (tid c i)
  td := fun q d c i => match q with | 0 => tdPts m d (tid c i)
  x := fun _ _ => iprop(emp)

instance P_storable : (P (F := F) m).IsStorable where
  st q d c := match q with
    | 0 => (inferInstance : BI.Storable (upEmb : UEmb _ (Res F)) (bigSep Finset.univ fun i : Fin ((K (F := F)).nSub 0) => goPts m d (tid c i)))
  dn q d c := match q with
    | 0 => (inferInstance : BI.Storable (upEmb : UEmb _ (Res F)) (bigSep Finset.univ fun i : Fin ((K (F := F)).nSub 0) => tdPts m d (tid c i)))
  go q d c i := match q with
    | 0 => (inferInstance : BI.Storable (upEmb : UEmb _ (Res F)) (goPts m d (tid c i)))
  td q d c i := match q with
    | 0 => (inferInstance : BI.Storable (upEmb : UEmb _ (Res F)) (tdPts m d (tid c i)))

/-- What the proof asks of the launch memory: every code is below 1024. -/
def Ok : Prop := ∀ (d : Dev nD) (j : S8192.Idx), BitVec.toNat (m (iLoc d) j) < 1024

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_onehot (coordsV c s)
          iV (Memref.isWhole_whole _) zV (Memref.isWhole_whole _) oV (Memref.isWhole_whole _)
          sV (Memref.isWhole_whole _) bV (Memref.isWhole_whole _) cc0_scoped0 cc0_scoped1 cc0_scoped2) ⟨⟩ c s := rfl

omit [FloatOps F] in
theorem obl_post {thr : Thread nD τ} {A B C : sProp (Res F)} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hok : Ok m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) (m (iLoc d)) (m (oLoc d)) hF (hok d) O W hO).trans (wp_mono frame _ _ fun _ => obl_post)

theorem vecSplit : (K (F := F)).VecSplit' (P m) 0 := by
  intro d c
  show (bigSep Finset.univ fun i : Fin ((K (F := F)).nSub 0) => goPts m d (tid c i)) ⊢ |={Set.univ}=> iprop(
      (bigSep Finset.univ fun i : Fin ((K (F := F)).nSub 0) => goPts m d (tid c i))
      ∗ ((bigSep Finset.univ fun i : Fin ((K (F := F)).nSub 0) => tdPts m d (tid c i))
          -∗ (bigSep Finset.univ fun i : Fin ((K (F := F)).nSub 0) => tdPts m d (tid c i))))
  iintro H; imodintro
  isplitl [H]; · iexact H
  iintro H; iexact H

/-! ## The arrays and the tasks' parts of them -/

omit [FloatOps F] in
theorem irows_disjoint : ∀ i ∈ (Finset.univ : Finset (Fin 32)), ∀ j ∈ (Finset.univ : Finset (Fin 32)), i ≠ j → Disjoint (iRowSet i) (iRowSet j) :=
  fun i _ j _ h => by rw [iRowSet_eq, iRowSet_eq]; exact Rect.part_disjoint idiv h
omit [FloatOps F] in
theorem orows_disjoint : ∀ i ∈ (Finset.univ : Finset (Fin 32)), ∀ j ∈ (Finset.univ : Finset (Fin 32)), i ≠ j → Disjoint (oRowSet i) (oRowSet j) :=
  fun i _ j _ h => by rw [oRowSet_eq, oRowSet_eq]; exact Rect.part_disjoint odiv h
omit [FloatOps F] in
theorem irows_cover : (Finset.univ : Finset (Fin 32)).biUnion iRowSet = Finset.univ :=
  (Finset.biUnion_congr rfl fun i _ => iRowSet_eq i).trans (Rect.biUnion_part idiv)
omit [FloatOps F] in
theorem orows_cover : (Finset.univ : Finset (Fin 32)).biUnion oRowSet = Finset.univ :=
  (Finset.biUnion_congr rfl fun i _ => oRowSet_eq i).trans (Rect.biUnion_part odiv)

omit [FloatOps F] in
theorem iPts_rows (d : Dev nD) (f : Buf (Elt F) (iLoc d)) :
    (iLoc d ↦{fullShare} f : sProp (Res F)) = bigSep Finset.univ fun i : Fin 32 => iLoc d ↦[iRowSet i]{fullShare} f := by
  rw [← pointsTo_biUnion Finset.univ (ℓ := iLoc d) iRowSet irows_disjoint, irows_cover]; try rfl
omit [FloatOps F] in
theorem oPts_rows (d : Dev nD) (f : Buf (Elt F) (oLoc d)) :
    (oLoc d ↦{fullShare} f : sProp (Res F)) = bigSep Finset.univ fun i : Fin 32 => oLoc d ↦[oRowSet i]{fullShare} f := by
  rw [← pointsTo_biUnion Finset.univ (ℓ := oLoc d) oRowSet orows_disjoint, orows_cover]; try rfl
omit [FloatOps F] in
theorem zPts_shares (d : Dev nD) (f : Buf (Elt F) (zLoc d)) :
    (zLoc d ↦{fullShare} f : sProp (Res F)) = bigSep Finset.univ fun i : Fin 32 => zLoc d ↦{zq i} f :=
  ShareLeaves.pointsTo_leaves Finset.univ f 5 fullShare

/-- The three arrays whole, the result at `g`. -/
abbrev allPts (d : Dev nD) (g : Buf (Elt F) (oLoc d)) : sProp (Res F) :=
  iprop((iLoc d ↦{fullShare} m (iLoc d)) ∗ (zLoc d ↦{fullShare} (fun _ => zero)) ∗ oLoc d ↦{fullShare} g)

theorem allPts_tasks (d : Dev nD) (g : Buf (Elt F) (oLoc d)) :
    (bigSep Finset.univ fun i : Fin 32 => taskPts d i (m (iLoc d)) g) = allPts m d g := by
  rw [bigSep_sep', bigSep_sep', ← iPts_rows, ← zPts_shares, ← oPts_rows]

omit [FloatOps F] in
/-- The tasks, core by core. -/
theorem bigSep_cores (Φ : Fin 32 → sProp (Res F)) :
    (bigSep Finset.univ fun c : Fin ((K (F := F)).nCore 0) => bigSep Finset.univ fun i : Fin ((K (F := F)).nSub 0) => Φ (tid c i))
      = bigSep Finset.univ Φ := by
  rw [Pipeline.bigSep_univ_comm, bigSep_univ_equiv (finProdFinEquiv : Fin 16 × Fin 2 ≃ Fin 32) Φ, bigSep_univ_prod]
  refine bigSep_congr fun i _ => bigSep_congr fun c _ => congrArg Φ (Fin.ext ?_)
  show 2 * i.val + c.val = c.val + 2 * i.val
  omega

theorem st0_eq (d : Dev nD) : (bigSep Finset.univ fun c : Fin ((K (F := F)).nCore 0) => (P m).st 0 d c) = allPts m d (m (oLoc d)) :=
  (bigSep_cores (goPts m d)).trans (allPts_tasks m d _)
theorem dn0_eq (d : Dev nD) : (bigSep Finset.univ fun c : Fin ((K (F := F)).nCore 0) => (P m).dn 0 d c) = allPts m d (hot (F := F) (m (iLoc d))) :=
  (bigSep_cores (tdPts m d)).trans (allPts_tasks m d _)

/-! ## The launch element -/

def u₀ : UU := (initOf (K (F := F)).hsCells (K (F := F)).hsToks, 1)

omit [FloatOps F] in
theorem bigSep_emp' {I : Type} (s : Finset I) : (bigSep s fun _ => iprop(emp)) = (iprop(emp) : sProp (Res F)) := bigSep_emp_const s

theorem hu₀ : (ownU (u₀ (F := F)) : sProp (Res F))
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## @main on the TensorCore -/

abbrev i' : DevRef τ sig := Proc.devRef .tc (main_arg0 : Ref sig .tc)
abbrev cst' : DevRef τ sig := Proc.devRef .tc (main_cst : Ref sig .tc)
abbrev z' : DevRef τ sig := Proc.devRef .tc (main_v0 : Ref sig .tc)
abbrev o' : DevRef τ sig := Proc.devRef .tc (main_v1 : Ref sig .tc)
abbrev opCst : HloOp τ sig (Elt F) := StableHlo.nullary main_cst (constant S_ .f32 0x00000000#32)
abbrev opBc : HloOp τ sig (Elt F) := StableHlo.unary main_cst main_v0 (broadcastInDim S32x1024 ![] bcast_S_S32x1024)
/-- The TensorCore's four arrays. -/
abbrev S4 : Finset (DevRef τ sig) := {i', cst', z', o'}

omit [FloatOps F] in
theorem held_S4 (d : Dev nD) (W : Valuation τ sig (Elt F)) :
    (held (T d) S4 W : sProp (Res F))
      = iprop((iLoc d ↦{fullShare} W i') ∗ ((SparseCore.T d).loc main_cst ↦{fullShare} W cst') ∗ (zLoc d ↦{fullShare} W z') ∗ oLoc d ↦{fullShare} W o') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp (Res F))
      = iprop((iLoc d ↦{fullShare} W main_arg0) ∗ ((SparseCore.T d).loc main_cst ↦{fullShare} W main_cst) ∗ (zLoc d ↦{fullShare} W main_v0)
          ∗ oLoc d ↦{fullShare} W main_v1) := by
  unfold unscopedBufs
  rw [show (Finset.univ.filter fun b : Ref sig .tc => ¬ b.isScoped) = {main_arg0, main_cst, main_v0, main_v1} by decide,
    SparseCore.bigSep_insert' (by decide), SparseCore.bigSep_insert' (by decide), SparseCore.bigSep_insert' (by decide), bigSep_singleton]

/-- The arrays at launch, -/
def V0 (d : Dev nD) : Valuation τ sig (Elt F) := fun b => m (d, b)
/-- and before the call. -/
def V2 (d : Dev nD) : Valuation τ sig (Elt F) := (opBc (F := F)).result ((opCst (F := F)).result (V0 m d))

theorem unscoped_held (d : Dev nD) : (unscopedBufs d (fun b => m ((SparseCore.T d).loc b)) : sProp (Res F)) = held (T d) S4 (V0 m d) := by
  rw [unscopedBufs_eq, held_S4]; rfl

theorem V2_i (d : Dev nD) : V2 m d i' = m (iLoc d) := by
  unfold V2
  rw [(opBc (F := F)).result_of_not_mem _ (show i' ∉ ({z'} : Finset (DevRef τ sig)) by decide),
    (opCst (F := F)).result_of_not_mem _ (show i' ∉ ({cst'} : Finset (DevRef τ sig)) by decide)]
  rfl
theorem V2_o (d : Dev nD) : V2 m d o' = m (oLoc d) := by
  unfold V2
  rw [(opBc (F := F)).result_of_not_mem _ (show o' ∉ ({z'} : Finset (DevRef τ sig)) by decide),
    (opCst (F := F)).result_of_not_mem _ (show o' ∉ ({cst'} : Finset (DevRef τ sig)) by decide)]
  rfl
theorem V2_z (d : Dev nD) : V2 m d z' = fun _ => zero := by
  unfold V2
  refine (StableHlo.unary_result _ _ _ _ _ _).trans ?_
  rw [StableHlo.nullary_result]
  rfl

theorem held_V2 (d : Dev nD) :
    (held (T d) S4 ((opBc (F := F)).result ((opCst (F := F)).result (V0 m d))) : sProp (Res F))
      = iprop((iLoc d ↦{fullShare} m (iLoc d)) ∗ ((SparseCore.T d).loc main_cst ↦{fullShare} V2 m d cst') ∗ (zLoc d ↦{fullShare} (fun _ => zero))
          ∗ oLoc d ↦{fullShare} m (oLoc d)) := by
  show held (SparseCore.T d) S4 (V2 m d) = _
  rw [held_S4, V2_i, V2_z, V2_o]

theorem hCst : (opCst (F := F)).bufs ⊆ S4 := show ({cst'} : Finset (DevRef τ sig)) ⊆ S4 by decide
theorem hBc : (opBc (F := F)).bufs ⊆ S4 := show ({cst', z'} : Finset (DevRef τ sig)) ⊆ S4 by decide

abbrev FIN (d : Dev nD) : sProp (Res F) := iprop((iLoc d ↦{fullShare} m (iLoc d)) ∗ oLoc d ↦{fullShare} hot (F := F) (m (iLoc d)))

/-- The constant and its broadcast, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opCst) (S := S4) hCst (V := V0 m d)) $$ [Hb Hheld]
  · isplitl [Hb] <;> iassumption
  iintro ⟨Hb, Hheld⟩
  rw [wp_ret]; imodintro
  iapply (wp_hlo_within 𝒱 (SparseCore.T d) none Set.univ (op := opBc) (S := S4) hBc (V := (opCst (F := F)).result (V0 m d))) $$ [Hb Hheld]
  · isplitl [Hb] <;> iassumption
  iintro ⟨Hb, Hheld⟩
  rw [wp_ret]; imodintro
  ihave Hh := (Entails.of_eq (held_V2 (F := F) m d)) $$ Hheld
  icases Hh with ⟨Hi, -, Hz, Ho⟩
  iapply ((K (F := F)).wp_run (D (F := F)) 𝒱 (EH := EH) (P := P m) κ d 0) $$ [Hst Hi Hz Ho Hb Hts]
  isplitr; · iexact Hctx
  isplitl [Hst]; · iexact Hst
  isplitl [Hi Hz Ho]
  · rw [st0_eq]
    isplitl [Hi]; · iexact Hi
    isplitl [Hz]; · iexact Hz
    iexact Ho
  iintro ⟨Hst, Hdn⟩
  ihave Hdn' := (Entails.of_eq (dn0_eq m d)) $$ Hdn
  icases Hdn' with ⟨Hi, -, Ho⟩
  imodintro
  isplitl [Hst]; · iexact Hst
  isplitr [Hb Hts]
  · isplitl [Hi]; · iexact Hi
    iexact Ho
  isplitl [Hb] <;> iassumption

def fq (d : Dev nD) (s' : Phys nD τ sig (Elt F)) : Prop := s'.mem.mem (iLoc d) = m (iLoc d) ∧ s'.mem.mem (oLoc d) = hot (F := F) (m (iLoc d))

set_option maxRecDepth 16384 in
theorem hfin (d : Dev nD) (s' : Phys nD τ sig (Elt F)) : iprop(FIN m d ∗ SI s') ⊢ (⌜fq m d s'⌝ : sProp (Res F)) := by
  iintro ⟨⟨Hi, Ho⟩, HSI⟩
  ihave H := (persistent_entails_right (SI_pointsTo_agree (st := s') (ℓ := iLoc d) (I := Finset.univ) (q := fullShare) (f := m (iLoc d)))) $$ [HSI Hi]
  · isplitl [HSI] <;> iassumption
  icases H with ⟨%h1, HSI, -⟩
  ihave H := (SI_pointsTo_agree (st := s') (ℓ := oLoc d) (I := Finset.univ) (q := fullShare) (f := hot (F := F) (m (iLoc d)))) $$ [HSI Ho]
  · isplitl [HSI] <;> iassumption
  icases H with %h2
  ipureintro; exact ⟨funext fun i => h1 i (Finset.mem_univ i), funext fun i => h2 i (Finset.mem_univ i)⟩

/-! ## The run -/

def QC : PUnit × MemSt nD τ sig (Elt F) → Prop := fun r =>
  (∀ c : Dev nD, r.2.mem (iLoc c) = m (iLoc c) ∧ r.2.mem (oLoc c) = hot (F := F) (m (iLoc c))) ∧ r.2.sem = fun _ => 0

theorem run_main [∀ e, Nonempty (Elt F e)] (hok : Ok m) :
    θ_run (Cert.OnehotIdeal.defs (F := F)) (Cert.OnehotIdeal.threads (F := F)) ⟨m, fun _ => 0, ρ⟩ (QC m) :=
  SparseCore.Cfg.θ_run_sc_quiescent (K := K (F := F)) (D := D (F := F)) (𝒱 := 𝒱) (EH := EH) (P := P m) (A := ∅) launchFacts v₀
    (fun q hq => match q with | 0 => nomatch hq)
    (fun q _ => match q with | 0 => tileObl m launchFacts hok)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.OnehotIdeal.Hand

end
-- ==== Proof.lean ====
/-
  The ten claims assembled. For the kernel: its frames as generated, the reference's from its run, and the two runs'
  results equal index by index. For its SparseCore call: the frames from its run, and its rows equal to the reference's
  index by index, both under the range of the codes.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Onehot
public import proofs.«01_k».proof.Proof.Gen.OnehotIdeal
public import proofs.«01_k».proof.Proof.Gen.OnehotIdeal.Skeleton
public import proofs.«01_k».proof.Proof.Gen.OnehotReferenceIdeal
public import proofs.«01_k».proof.Proof.Gen.Pre_indices_in_range
public import proofs.«01_k».proof.Proof.KernelRun
public import proofs.«01_k».proof.Proof.RefValue
public import proofs.«01_k».proof.Proof.OnehotRef
public import proofs.«01_k».proof.Proof.OnehotLaunch
public import Idealize.ShloMosaic.Adequacy
public import Idealize.ShloMosaic.Init

@[expose] public section

noncomputable section

namespace Cert.Proof

open Idealize.ShloMosaic Idealize.SL.Sem Cert.Hand

/-- The reference runs, its arguments and every counter unchanged. -/
theorem reference_frame : Cert.quiescent_ReferenceIdeal (hReferenceIdeal := Cert.ReferenceIdeal.Gen.facts) := fun m g _ =>
  (θ_run _ _ _).mono (fun _ h => ⟨fun c => ⟨(h.1 c).2.2.2.1, (h.1 c).2.2.2.2⟩, h.2⟩) (Cert.ReferenceIdeal.Hand.run m g)

/-- An index of the quantized images by its four coordinates, -/
theorem index_images (i : Images.Idx) : i = ix4 (i 0) (i 1) (i 2) (i 3) := by
  funext a
  fin_cases a <;> rfl

/-- of the one-hot rows by its two, -/
theorem index_rows (i : (⟨2, ![8192, 1024]⟩ : Shape).Idx) : i = ix2 (i 0) (i 1) := by
  funext a
  fin_cases a <;> rfl

/-- and of the column of indices by its row. -/
theorem index_column (i : (⟨2, ![8192, 1]⟩ : Shape).Idx) : i = ix2 (i 0) 0 := by
  funext a
  fin_cases a
  · rfl
  · exact Subsingleton.elim (α := Fin 1) _ _

/-- Arrays that agree at every spelt index are equal. -/
theorem ext_images {A B : Images.Idx → EReal} (h : ∀ b c y w, A (ix4 b c y w) = B (ix4 b c y w)) : A = B :=
  funext fun i => by rw [index_images i]; exact h _ _ _ _

theorem ext_rows {A B : (⟨2, ![8192, 1024]⟩ : Shape).Idx → EReal} (h : ∀ r k, A (ix2 r k) = B (ix2 r k)) : A = B :=
  funext fun i => by rw [index_rows i]; exact h _ _

theorem ext_column {A B : (⟨2, ![8192, 1]⟩ : Shape).Idx → BitVec 32} (h : ∀ r, A (ix2 r 0) = B (ix2 r 0)) : A = B :=
  funext fun i => by rw [index_column i]; exact h _

/-- The kernel's three results are the reference's. -/
theorem results : Cert.algebraic_KernelIdeal_ReferenceIdeal (hKernelIdeal := Cert.KernelIdeal.Gen.facts)
    (hReferenceIdeal := Cert.ReferenceIdeal.Gen.facts) := fun m g m' g' _ he => by
  refine ⟨fun c => Cert.ReferenceIdeal.Hand.zq (F := Ideal) (m (c.tc.loc Cert.KernelIdeal.main_arg0)) (m (c.tc.loc Cert.KernelIdeal.main_arg1)),
    fun c => Cert.ReferenceIdeal.Hand.enc (F := Ideal) (m (c.tc.loc Cert.KernelIdeal.main_arg0)) (m (c.tc.loc Cert.KernelIdeal.main_arg1)),
    fun c => Cert.ReferenceIdeal.Hand.column (F := Ideal) (m (c.tc.loc Cert.KernelIdeal.main_arg0)) (m (c.tc.loc Cert.KernelIdeal.main_arg1)), ?_, ?_⟩
  · refine (θ_run _ _ _).mono (fun r h c => ?_) (Cert.KernelIdeal.Hand.run m g)
    obtain ⟨hq, hh, hi, h0, h1⟩ := h c
    refine ⟨?_, ?_, ?_, h0, h1⟩
    · exact ext_images fun b ch y w => (hq b ch y w).trans (Cert.ReferenceIdeal.Hand.zq_apply _ _ b ch y w).symm
    · exact ext_rows fun i k => (hh i k).trans (Cert.ReferenceIdeal.Hand.enc_apply _ _ i k).symm
    · exact ext_column fun i => (hi i).trans (Cert.ReferenceIdeal.Hand.column_apply _ _ i).symm
  · refine (θ_run _ _ _).mono (fun r h c => ?_) (Cert.ReferenceIdeal.Hand.run m' g')
    obtain ⟨hq, hh, hi, h0, h1⟩ := h.1 c
    obtain ⟨e0, e1⟩ := he c
    rw [e0, e1] at hq hh hi
    exact ⟨hq, hh, hi, h0, h1⟩

/-- The SparseCore call as compiled runs, its codes and every counter unchanged, -/
theorem onehot_frame : Cert.quiescent_Onehot (hOnehot := Cert.Onehot.Gen.facts)
    (hPre_indices_in_range := Cert.Pre_indices_in_range.Gen.facts) := fun m g hp =>
  (θ_run Cert.OnehotIdeal.defs _ _).mono (fun _ h => ⟨fun c => (h.1 c).1, h.2⟩)
    (Cert.OnehotIdeal.Hand.run_main (F := Bits) m g fun d => Cert.OnehotIdeal.Hand.codes_lt _ (hp d))

/-- and so over the extended reals, -/
theorem onehot_ideal_frame : Cert.quiescent_OnehotIdeal (hOnehotIdeal := Cert.OnehotIdeal.Gen.facts)
    (hPre_indices_in_range := Cert.Pre_indices_in_range.Gen.facts) := fun m g hp =>
  (θ_run Cert.OnehotIdeal.defs _ _).mono (fun _ h => ⟨fun c => (h.1 c).1, h.2⟩)
    (Cert.OnehotIdeal.Hand.run_main (F := Ideal) m g fun d => Cert.OnehotIdeal.Hand.codes_lt _ (hp d))

/-- and so does its reference. -/
theorem onehot_reference_frame : Cert.quiescent_OnehotReferenceIdeal (hOnehotReferenceIdeal := Cert.OnehotReferenceIdeal.Gen.facts)
    (hPre_indices_in_range := Cert.Pre_indices_in_range.Gen.facts) := fun m g _ =>
  (θ_run _ _ _).mono (fun _ h => ⟨fun c => (h.1 c).2, h.2⟩) (Cert.OnehotReferenceIdeal.Hand.run m g)

/-- A row of the call's result at an index. -/
theorem hot_apply (i : IVec ⟨1, ![8192]⟩ 32) (r : Fin 8192) (k : Fin 1024) :
    Cert.OnehotIdeal.Hand.hot (F := Ideal) i (ix2 r k) = if k.val = (i (ix1 r)).toNat then (1 : EReal) else 0 := by
  have hw : Cert.OnehotIdeal.Hand.wd i r.val = (i (ix1 r)).toNat := Cert.OnehotIdeal.Hand.wd_of_lt i r.isLt
  show (if k.val = Cert.OnehotIdeal.Hand.wd i r.val then Cert.OnehotIdeal.Hand.one (F := Ideal) else Cert.OnehotIdeal.Hand.zero (F := Ideal)) = _
  rw [hw]
  exact if_congr Iff.rfl Ideal.ofBits_one_f32 Ideal.ofBits_zero_f32

/-- The SparseCore call's rows are the reference's. -/
theorem onehot_results : Cert.algebraic_OnehotIdeal_OnehotReferenceIdeal (hOnehotIdeal := Cert.OnehotIdeal.Gen.facts)
    (hOnehotReferenceIdeal := Cert.OnehotReferenceIdeal.Gen.facts)
    (hPre_indices_in_range := Cert.Pre_indices_in_range.Gen.facts) := fun m g m' g' hp he => by
  have hok : Cert.OnehotIdeal.Hand.Ok (F := Ideal) m := fun d => Cert.OnehotIdeal.Hand.codes_lt _ (hp d)
  refine ⟨fun c => Cert.OnehotReferenceIdeal.Hand.enc (F := Ideal) (m (c.tc.loc Cert.OnehotIdeal.main_arg0)), ?_, ?_⟩
  · refine (θ_run _ _ _).mono (fun r h c => ⟨?_, (h.1 c).1⟩) (Cert.OnehotIdeal.Hand.run_main (F := Ideal) m g hok)
    refine (h.1 c).2.trans (ext_rows fun i k => ?_)
    exact (hot_apply _ i k).trans (Cert.OnehotReferenceIdeal.Hand.enc_apply _ (hok c) i k).symm
  · refine (θ_run _ _ _).mono (fun r h c => ?_) (Cert.OnehotReferenceIdeal.Hand.run m' g')
    obtain ⟨hq, h0⟩ := h.1 c
    rw [he c] at hq
    exact ⟨hq, h0⟩

theorem claim : Cert.Claim :=
  ⟨Cert.Kernel.Gen.facts, Cert.KernelIdeal.Gen.facts, Cert.ReferenceIdeal.Gen.facts,
    Cert.Onehot.Gen.facts, Cert.OnehotIdeal.Gen.facts, Cert.OnehotReferenceIdeal.Gen.facts, Cert.Pre_indices_in_range.Gen.facts,
    fun m ρ _ => Cert.Kernel.Gen.frame m ρ, fun m ρ _ => Cert.KernelIdeal.Gen.frame m ρ, reference_frame,
    onehot_frame, onehot_ideal_frame, onehot_reference_frame, trivial, results, trivial, onehot_results⟩

end Cert.Proof

end
